-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_graphs [hPre_graphs : Cert.Pre_graphs.Facts] (m : (ℓ : Loc Cert.KernelIdeal.nD Cert.KernelIdeal.τ Cert.KernelIdeal.sig) → Buf (Elt Ideal) ℓ) : Prop :=
  ∀ c : Dev Cert.KernelIdeal.nD,
    (Cert.Pre_graphs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_graphs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_graphs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_graphs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_graphs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_graphs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_graphs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 = (fun _ => 1#1)
    ∧ (Cert.Pre_graphs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.1 = (fun _ => 1#1)
    ∧ (Cert.Pre_graphs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_graphs [hPre_graphs : Cert.Pre_graphs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_graphs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_graphs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_graphs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_graphs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_graphs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_graphs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_graphs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.1 = (fun _ => 1#1)
    ∧ (Cert.Pre_graphs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.1 = (fun _ => 1#1)
    ∧ (Cert.Pre_graphs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_graphs [hKernelIdeal : Cert.KernelIdeal.Facts] [hPre_graphs : Cert.Pre_graphs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_graphs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_graphs [hReferenceIdeal : Cert.ReferenceIdeal.Facts] [hPre_graphs : Cert.Pre_graphs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_graphs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_graphs [hKernelIdeal : Cert.KernelIdeal.Facts] [hReferenceIdeal : Cert.ReferenceIdeal.Facts] [hPre_graphs : Cert.Pre_graphs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_graphs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_graphs : Cert.Pre_graphs.Facts),
    quiescent_Kernel (hKernel := hKernel)
    ∧ quiescent_KernelIdeal (hKernelIdeal := hKernelIdeal)
    ∧ quiescent_KernelIdeal_pre_graphs (hKernelIdeal := hKernelIdeal) (hPre_graphs := hPre_graphs)
    ∧ quiescent_ReferenceIdeal (hReferenceIdeal := hReferenceIdeal)
    ∧ quiescent_ReferenceIdeal_pre_graphs (hReferenceIdeal := hReferenceIdeal) (hPre_graphs := hPre_graphs)
    ∧ preserves_Kernel_KernelIdeal
    ∧ algebraic_KernelIdeal_ReferenceIdeal_pre_graphs (hKernelIdeal := hKernelIdeal) (hReferenceIdeal := hReferenceIdeal) (hPre_graphs := hPre_graphs)
-- ==== Pre_graphs.lean ====
abbrev S16x512x2048 : Shape := ⟨3, ![16, 512, 2048]⟩
abbrev S16 : Shape := ⟨1, ![16]⟩
abbrev S16x64x64 : Shape := ⟨3, ![16, 64, 64]⟩
abbrev S16x64 : Shape := ⟨2, ![16, 64]⟩
abbrev S64x64 : Shape := ⟨2, ![64, 64]⟩
abbrev S64 : Shape := ⟨1, ![64]⟩
abbrev S_ : Shape := ⟨0, ![]⟩

class Facts : Prop where
  bcast_S_S16x64 : S_.BroadcastsInDim S16x64 (![] : Fin 0 → Fin S16x64.rank)
  bcast_S_S64 : S_.BroadcastsInDim S64 (![] : Fin 0 → Fin S64.rank)
  bcast_S_S16x512x2048 : S_.BroadcastsInDim S16x512x2048 (![] : Fin 0 → Fin S16x512x2048.rank)
  bcast_S_S16x64x64 : S_.BroadcastsInDim S16x64x64 (![] : Fin 0 → Fin S16x64x64.rank)
  bcast_S_S64x64 : S_.BroadcastsInDim S64x64 (![] : Fin 0 → Fin S64x64.rank)

variable [Facts]

def fn_part1 {F : FTy → Type} [FloatOps F] (main_arg4 : FVec F S16x64 .f32) (main_arg6 : FVec F S64x64 .f32) (main_arg7 : FVec F S64 .f32) (main_arg8 : FVec F S64 .f32) (main_v4 : IVec S16x64 1) (main_v9 : IVec S64 1) (main_v12 : IVec S16x512x2048 1) (main_v14 : IVec S16x64x64 1) (main_v16 : IVec S16x64 1) : IVec S16x64 1 × IVec S64 1 × IVec S16x512x2048 1 × IVec S16x64x64 1 × IVec S16x64 1 × IVec S16x64 1 × IVec S64x64 1 × IVec S64 1 × IVec S64 1 :=
  let main_cst_5 : FVec F S_ .f32 := constant S_ .f32 0x7F800000#32
  let main_v17 : FVec F S16x64 .f32 := broadcastInDim S16x64 ![] bcast_S_S16x64 main_cst_5
  let main_v18 : IVec S16x64 1 := cmpf .olt main_arg4 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_v22 : FVec F S64 .f32 := Host.absf main_arg7
  let main_cst_7 : FVec F S_ .f32 := constant S_ .f32 0x7F800000#32
  let main_v23 : FVec F S64 .f32 := broadcastInDim S64 ![] bcast_S_S64 main_cst_7
  let main_v24 : IVec S64 1 := cmpf .olt main_v22 main_v23
  let main_v25 : FVec F S64 .f32 := Host.absf main_arg8
  let main_cst_8 : FVec F S_ .f32 := constant S_ .f32 0x7F800000#32
  let main_v26 : FVec F S64 .f32 := broadcastInDim S64 ![] bcast_S_S64 main_cst_8
  let main_v27 : IVec S64 1 := cmpf .olt main_v25 main_v26
  (main_v4, main_v9, main_v12, main_v14, main_v16, main_v18, main_v21, main_v24, main_v27)

def fn {F : FTy → Type} [FloatOps F] (main_arg0 : FVec F S16x512x2048 .f32) (main_arg1 : IVec S16 32) (main_arg2 : FVec F S16x64x64 .f32) (main_arg3 : FVec F S16x64 .f32) (main_arg4 : FVec F S16x64 .f32) (main_arg5 : IVec S16x64 32) (main_arg6 : FVec F S64x64 .f32) (main_arg7 : FVec F S64 .f32) (main_arg8 : FVec F S64 .f32) (main_arg9 : IVec S64 32) : IVec S16x64 1 × IVec S64 1 × IVec S16x512x2048 1 × IVec S16x64x64 1 × IVec S16x64 1 × IVec S16x64 1 × IVec S64x64 1 × IVec S64 1 × IVec S64 1 :=
  let main_c : IVec S_ 32 := constantI S_ 32 0#32
  let main_v0 : IVec S16x64 32 := broadcastInDim S16x64 ![] bcast_S_S16x64 main_c
  let main_v1 : IVec S16x64 1 := cmpi .sge main_arg5 main_v0
  let main_c_0 : IVec S_ 32 := constantI S_ 32 2048#32
  let main_v2 : IVec S16x64 32 := broadcastInDim S16x64 ![] bcast_S_S16x64 main_c_0
  let main_v3 : IVec S16x64 1 := cmpi .slt main_arg5 main_v2
  let main_v4 : IVec S16x64 1 := andi main_v1 main_v3
  let main_c_1 : IVec S_ 32 := constantI S_ 32 0#32
  let main_v5 : IVec S64 32 := broadcastInDim S64 ![] bcast_S_S64 main_c_1
  let main_v6 : IVec S64 1 := cmpi .sge main_arg9 main_v5
  let main_c_2 : IVec S_ 32 := constantI S_ 32 2048#32
  let main_v7 : IVec S64 32 := broadcastInDim S64 ![] bcast_S_S64 main_c_2
  let main_v8 : IVec S64 1 := cmpi .slt main_arg9 main_v7
  let main_v9 : IVec S64 1 := andi main_v6 main_v8
  let main_v10 : FVec F S16x512x2048 .f32 := Host.absf main_arg0
  let main_cst : FVec F S_ .f32 := constant S_ .f32 0x7F800000#32
  let main_v11 : FVec F S16x512x2048 .f32 := broadcastInDim S16x512x2048 ![] bcast_S_S16x512x2048 main_cst
  let main_v12 : IVec S16x512x2048 1 := cmpf .olt main_v10 main_v11
  let main_cst_3 : FVec F S_ .f32 := constant S_ .f32 0x7F800000#32
  let main_v13 : FVec F S16x64x64 .f32 := broadcastInDim S16x64x64 ![] bcast_S_S16x64x64 main_cst_3
  let main_v14 : IVec S16x64x64 1 := cmpf .olt main_arg2 main_v13
  let main_cst_4 : FVec F S_ .f32 := constant S_ .f32 0x7F800000#32
  let main_v15 : FVec F S16x64 .f32 := broadcastInDim S16x64 ![] bcast_S_S16x64 main_cst_4
  let main_v16 : IVec S16x64 1 := cmpf .olt main_arg3 main_v15
  fn_part1 (F := F) main_arg4 main_arg6 main_arg7 main_arg8 main_v4 main_v9 main_v12 main_v14 main_v16
-- ==== Kernel.lean ====
abbrev S16x512x2048 : Shape := ⟨3, ![16, 512, 2048]⟩
abbrev S16 : Shape := ⟨1, ![16]⟩
abbrev S16x64x64 : Shape := ⟨3, ![16, 64, 64]⟩
abbrev S16x64 : Shape := ⟨2, ![16, 64]⟩
abbrev S64x64 : Shape := ⟨2, ![64, 64]⟩
abbrev S64 : Shape := ⟨1, ![64]⟩
abbrev S16x1x64 : Shape := ⟨3, ![16, 1, 64]⟩
abbrev S1x64 : Shape := ⟨2, ![1, 64]⟩
abbrev S512x2048 : Shape := ⟨2, ![512, 2048]⟩
abbrev S1x512x2048 : Shape := ⟨3, ![1, 512, 2048]⟩
abbrev S1x1x64 : Shape := ⟨3, ![1, 1, 64]⟩
abbrev S512x128 : Shape := ⟨2, ![512, 128]⟩
abbrev S1x128 : Shape := ⟨2, ![1, 128]⟩
abbrev S2048x128 : Shape := ⟨2, ![2048, 128]⟩
abbrev S512x16x128 : Shape := ⟨3, ![512, 16, 128]⟩
abbrev S64x16x64 : Shape := ⟨3, ![64, 16, 64]⟩
abbrev S64x1x64 : Shape := ⟨3, ![64, 1, 64]⟩
abbrev S16x1 : Shape := ⟨2, ![16, 1]⟩
abbrev S1x1 : Shape := ⟨2, ![1, 1]⟩
abbrev S64x1024 : Shape := ⟨2, ![64, 1024]⟩
abbrev S192x1024 : Shape := ⟨2, ![192, 1024]⟩
abbrev S192x64 : Shape := ⟨2, ![192, 64]⟩
abbrev S16x8x128 : Shape := ⟨3, ![16, 8, 128]⟩
abbrev S16x128 : Shape := ⟨2, ![16, 128]⟩
abbrev S1x16x128 : Shape := ⟨3, ![1, 16, 128]⟩
abbrev S16x192 : Shape := ⟨2, ![16, 192]⟩
abbrev S16x1024 : Shape := ⟨2, ![16, 1024]⟩
abbrev S1 : Shape := ⟨1, ![1]⟩
abbrev S_ : Shape := ⟨0, ![]⟩

abbrev nBuf : Space → Nat
  | .hbm => 21
  | .vmem => 16
  | .smem => 0
  | _ => 0

abbrev bufTy : (tb : Table) → Fin (tcTables nBuf tb) → BufTy
  | .hbm, ⟨0, _⟩ => ⟨S16x512x2048, .f32⟩
  | .hbm, ⟨1, _⟩ => ⟨S16, .i32⟩
  | .hbm, ⟨2, _⟩ => ⟨S16x64x64, .f32⟩
  | .hbm, ⟨3, _⟩ => ⟨S16x64, .f32⟩
  | .hbm, ⟨4, _⟩ => ⟨S16x64, .f32⟩
  | .hbm, ⟨5, _⟩ => ⟨S16x64, .i32⟩
  | .hbm, ⟨6, _⟩ => ⟨S64x64, .f32⟩
  | .hbm, ⟨7, _⟩ => ⟨S64, .f32⟩
  | .hbm, ⟨8, _⟩ => ⟨S64, .f32⟩
  | .hbm, ⟨9, _⟩ => ⟨S64, .i32⟩
  | .hbm, ⟨10, _⟩ => ⟨S16x1x64, .i32⟩
  | .hbm, ⟨11, _⟩ => ⟨S1x64, .i32⟩
  | .hbm, ⟨12, _⟩ => ⟨S512x2048, .f32⟩
  | .hbm, ⟨13, _⟩ => ⟨S512x16x128, .f32⟩
  | .hbm, ⟨14, _⟩ => ⟨S64x16x64, .f32⟩
  | .hbm, ⟨15, _⟩ => ⟨S64x1x64, .f32⟩
  | .hbm, ⟨16, _⟩ => ⟨S1x64, .f32⟩
  | .hbm, ⟨17, _⟩ => ⟨S1x64, .f32⟩
  | .hbm, ⟨18, _⟩ => ⟨S16x1, .i32⟩
  | .hbm, ⟨19, _⟩ => ⟨S1x1, .f32⟩
  | .hbm, ⟨20, _⟩ => ⟨S_, .f32⟩
  | .local _ .vmem, ⟨0, _⟩ => ⟨S1x512x2048, .f32⟩
  | .local _ .vmem, ⟨1, _⟩ => ⟨S1x512x2048, .f32⟩
  | .local _ .vmem, ⟨2, _⟩ => ⟨S1x1x64, .i32⟩
  | .local _ .vmem, ⟨3, _⟩ => ⟨S1x1x64, .i32⟩
  | .local _ .vmem, ⟨4, _⟩ => ⟨S1x64, .i32⟩
  | .local _ .vmem, ⟨5, _⟩ => ⟨S512x128, .f32⟩
  | .local _ .vmem, ⟨6, _⟩ => ⟨S512x128, .f32⟩
  | .local _ .vmem, ⟨7, _⟩ => ⟨S512x16x128, .f32⟩
  | .local _ .vmem, ⟨8, _⟩ => ⟨S64x16x64, .f32⟩
  | .local _ .vmem, ⟨9, _⟩ => ⟨S64x1x64, .f32⟩
  | .local _ .vmem, ⟨10, _⟩ => ⟨S16x64, .f32⟩
  | .local _ .vmem, ⟨11, _⟩ => ⟨S1x64, .f32⟩
  | .local _ .vmem, ⟨12, _⟩ => ⟨S16x64, .f32⟩
  | .local _ .vmem, ⟨13, _⟩ => ⟨S1x64, .f32⟩
  | .local _ .vmem, ⟨14, _⟩ => ⟨S16x1, .i32⟩
  | .local _ .vmem, ⟨15, _⟩ => ⟨S1x1, .f32⟩
  | _, _ => ⟨S16x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x64 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x64 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := .none

@[reducible] def k1_t1_loop : Scf.Loop 32 :=
  let c0_i32_26 : BitVec 32 := 0#32
  let c127_i32 : BitVec 32 := 127#32
  let v83 : BitVec 32 := Scalar.addi c0_i32_26 c127_i32
  let c1_i32_27 : BitVec 32 := 1#32
  ⟨c0_i32_26, v83, c1_i32_27⟩
def k1_off1 (k1_t1 : Fin k1_t1_loop.trips) (c0_i32_61 : BitVec 32) : Fin 3 → Nat :=
  let c4_i32 : BitVec 32 := 4#32
  let c0_i32_26 : BitVec 32 := 0#32
  let c1_i32_27 : BitVec 32 := 1#32
  let arg9 : BitVec 32 := Scf.iv c0_i32_26 c1_i32_27 k1_t1
  let v262 : BitVec 32 := Scalar.muli c4_i32 arg9
  let c1_i32_60 : BitVec 32 := 1#32
  let v263 : BitVec 32 := Scalar.addi v262 c1_i32_60
  let v264 : BitVec 32 := Scalar.addi v263 c0_i32_61
  let v291 : Index := Scalar.indexCast v264
  let c0_65 : Index := 0#32
  let c0_66 : Index := 0#32
  ![v291.toNat, 0, 0]
abbrev stage1_0 : Fin 1 → Memref sig .tc .vmem S512x16x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S64x16x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S64x1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S16x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S16x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S16x1 .i32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
-- ==== ReferenceIdeal.lean ====
abbrev S16x512x2048 : Shape := ⟨3, ![16, 512, 2048]⟩
abbrev S16 : Shape := ⟨1, ![16]⟩
abbrev S16x64x64 : Shape := ⟨3, ![16, 64, 64]⟩
abbrev S16x64 : Shape := ⟨2, ![16, 64]⟩
abbrev S64x64 : Shape := ⟨2, ![64, 64]⟩
abbrev S64 : Shape := ⟨1, ![64]⟩
abbrev S1x64x64 : Shape := ⟨3, ![1, 64, 64]⟩
abbrev S1x64 : Shape := ⟨2, ![1, 64]⟩
abbrev S_ : Shape := ⟨0, ![]⟩
abbrev S16x64x1 : Shape := ⟨3, ![16, 64, 1]⟩
abbrev S16x512x64 : Shape := ⟨3, ![16, 512, 64]⟩
abbrev S16x1x64 : Shape := ⟨3, ![16, 1, 64]⟩
abbrev S512x16x64 : Shape := ⟨3, ![512, 16, 64]⟩
abbrev S511x16x64 : Shape := ⟨3, ![511, 16, 64]⟩
abbrev S511 : Shape := ⟨1, ![511]⟩
abbrev S1x16x64 : Shape := ⟨3, ![1, 16, 64]⟩
abbrev S1 : Shape := ⟨1, ![1]⟩
abbrev S16x1 : Shape := ⟨2, ![16, 1]⟩

abbrev nBuf : Space → Nat
  | .hbm => 177
  | .vmem => 0
  | .smem => 0
  | _ => 0

abbrev hbmTy0_0 (i : Nat) : BufTy := match i % 128 with
  | 0 => ⟨S16x512x2048, .f32⟩
  | 1 => ⟨S16, .i32⟩
  | 2 => ⟨S16x64x64, .f32⟩
  | 3 => ⟨S16x64, .f32⟩
  | 4 => ⟨S16x64, .f32⟩
  | 5 => ⟨S16x64, .i32⟩
  | 6 => ⟨S64x64, .f32⟩
  | 7 => ⟨S64, .f32⟩
  | 8 => ⟨S64, .f32⟩
  | 9 => ⟨S64, .i32⟩
  | 10 => ⟨S1x64x64, .f32⟩
  | 11 => ⟨S16x64x64, .f32⟩
  | 12 => ⟨S1x64, .f32⟩
  | 13 => ⟨S16x64, .f32⟩
  | 14 => ⟨S1x64, .i32⟩
  | 15 => ⟨S16x64, .i32⟩
  | 16 => ⟨S_, .i32⟩
  | 17 => ⟨S16x64, .i32⟩
  | 18 => ⟨S16x64, .i1⟩
  | 19 => ⟨S_, .i32⟩
  | 20 => ⟨S16x64, .i32⟩
  | 21 => ⟨S16x64, .i32⟩
  | 22 => ⟨S16x64, .i32⟩
  | 23 => ⟨S16x64x1, .i32⟩
  | 24 => ⟨S16x512x64, .f32⟩
  | 25 => ⟨S_, .i32⟩
  | 26 => ⟨S16x64, .i32⟩
  | 27 => ⟨S16x64, .i1⟩
  | 28 => ⟨S_, .i32⟩
  | 29 => ⟨S16x64, .i32⟩
  | 30 => ⟨S16x64, .i32⟩
  | 31 => ⟨S16x64, .i32⟩
  | 32 => ⟨S16x64x1, .i32⟩
  | 33 => ⟨S16x512x64, .f32⟩
  | 34 => ⟨S16x1x64, .f32⟩
  | 35 => ⟨S16x64, .f32⟩
  | 36 => ⟨S16x64, .f32⟩
  | 37 => ⟨S16x1x64, .f32⟩
  | 38 => ⟨S16x64, .f32⟩
  | 39 => ⟨S16x64, .f32⟩
  | 40 => ⟨S512x16x64, .f32⟩
  | 41 => ⟨S511x16x64, .f32⟩
  | 42 => ⟨S512x16x64, .f32⟩
  | 43 => ⟨S511x16x64, .f32⟩
  | 44 => ⟨S511, .i32⟩
  | 45 => ⟨S_, .i32⟩
  | 46 => ⟨S511, .i32⟩
  | 47 => ⟨S511, .i32⟩
  | 48 => ⟨S_, .i32⟩
  | 49 => ⟨S511x16x64, .f32⟩
  | 50 => ⟨S511x16x64, .f32⟩
  | 51 => ⟨S511, .i32⟩
  | 52 => ⟨S16x64x64, .f32⟩
  | 53 => ⟨S16, .i32⟩
  | 54 => ⟨S16x64x64, .f32⟩
  | 55 => ⟨S_, .i32⟩
  | 56 => ⟨S16x64, .f32⟩
  | 57 => ⟨S16x64, .f32⟩
  | 58 => ⟨S_, .i32⟩
  | 59 => ⟨S_, .i1⟩
  | 60 => ⟨S_, .i32⟩
  | 61 => ⟨S_, .i32⟩
  | 62 => ⟨S1x16x64, .f32⟩
  | 63 => ⟨S16x64, .f32⟩
  | 64 => ⟨S_, .i32⟩
  | 65 => ⟨S_, .i32⟩
  | 66 => ⟨S1x16x64, .f32⟩
  | 67 => ⟨S16x64, .f32⟩
  | 68 => ⟨S1, .i32⟩
  | 69 => ⟨S_, .i32⟩
  | 70 => ⟨S16x64x1, .f32⟩
  | 71 => ⟨S16x64x64, .f32⟩
  | 72 => ⟨S16x64x64, .f32⟩
  | 73 => ⟨S_, .f32⟩
  | 74 => ⟨S16x64, .f32⟩
  | 75 => ⟨S16x1x64, .f32⟩
  | 76 => ⟨S16x1x64, .f32⟩
  | 77 => ⟨S_, .f32⟩
  | 78 => ⟨S16x1x64, .f32⟩
  | 79 => ⟨S16x1x64, .i1⟩
  | 80 => ⟨S_, .f32⟩
  | 81 => ⟨S_, .f32⟩
  | 82 => ⟨S16x1x64, .f32⟩
  | 83 => ⟨S16x1x64, .f32⟩
  | 84 => ⟨S16x64x64, .f32⟩
  | 85 => ⟨S16x64x64, .f32⟩
  | 86 => ⟨S16x64x64, .f32⟩
  | 87 => ⟨S_, .f32⟩
  | 88 => ⟨S16x64, .f32⟩
  | 89 => ⟨S16x64, .f32⟩
  | 90 => ⟨S16x64, .f32⟩
  | 91 => ⟨S16x64, .f32⟩
  | 92 => ⟨S16x64, .f32⟩
  | 93 => ⟨S16, .i32⟩
  | 94 => ⟨S16, .i1⟩
  | 95 => ⟨S16x1, .i1⟩
  | 96 => ⟨S16x64, .i1⟩
  | 97 => ⟨S16x64, .f32⟩
  | 98 => ⟨S16x64x1, .f32⟩
  | 99 => ⟨S16x64x64, .f32⟩
  | 100 => ⟨S16x64x64, .f32⟩
  | 101 => ⟨S_, .f32⟩
  | 102 => ⟨S16x64, .f32⟩
  | 103 => ⟨S16x1x64, .f32⟩
  | 104 => ⟨S16x1x64, .f32⟩
  | 105 => ⟨S_, .f32⟩
  | 106 => ⟨S16x1x64, .f32⟩
  | 107 => ⟨S16x1x64, .i1⟩
  | 108 => ⟨S_, .f32⟩
  | 109 => ⟨S_, .f32⟩
  | 110 => ⟨S16x1x64, .f32⟩
  | 111 => ⟨S16x1x64, .f32⟩
  | 112 => ⟨S16x64x64, .f32⟩
  | 113 => ⟨S16x64x64, .f32⟩
  | 114 => ⟨S16x64x64, .f32⟩
  | 115 => ⟨S_, .f32⟩
  | 116 => ⟨S16x64, .f32⟩
  | 117 => ⟨S16x64, .f32⟩
  | 118 => ⟨S16x64, .f32⟩
  | 119 => ⟨S16x64, .f32⟩
  | 120 => ⟨S16x64, .f32⟩
  | 121 => ⟨S16, .i32⟩
  | 122 => ⟨S16, .i1⟩
  | 123 => ⟨S16x1, .i1⟩
  | 124 => ⟨S16x64, .i1⟩
  | 125 => ⟨S16x64, .f32⟩
  | 126 => ⟨S_, .i32⟩
  | 127 => ⟨S_, .i32⟩
  | _ => ⟨S16x512x2048, .f32⟩

abbrev hbmTy0_1 (i : Nat) : BufTy := match i % 128 with
  | 0 => ⟨S1x64, .f32⟩
  | 1 => ⟨S16x64, .f32⟩
  | 2 => ⟨S16x64, .f32⟩
  | 3 => ⟨S_, .f32⟩
  | 4 => ⟨S16, .f32⟩
  | 5 => ⟨S16x1, .f32⟩
  | 6 => ⟨S16x1, .f32⟩
  | 7 => ⟨S_, .f32⟩
  | 8 => ⟨S16x1, .f32⟩
  | 9 => ⟨S16x1, .i1⟩
  | 10 => ⟨S_, .f32⟩
  | 11 => ⟨S_, .f32⟩
  | 12 => ⟨S16x1, .f32⟩
  | 13 => ⟨S16x1, .f32⟩
  | 14 => ⟨S16x64, .f32⟩
  | 15 => ⟨S16x64, .f32⟩
  | 16 => ⟨S16x64, .f32⟩
  | 17 => ⟨S_, .f32⟩
  | 18 => ⟨S16, .f32⟩
  | 19 => ⟨S16, .f32⟩
  | 20 => ⟨S16, .f32⟩
  | 21 => ⟨S16, .f32⟩
  | 22 => ⟨S16x64, .f32⟩
  | 23 => ⟨S_, .f32⟩
  | 24 => ⟨S16, .f32⟩
  | 25 => ⟨S16x1, .f32⟩
  | 26 => ⟨S16x1, .f32⟩
  | 27 => ⟨S_, .f32⟩
  | 28 => ⟨S16x1, .f32⟩
  | 29 => ⟨S16x1, .i1⟩
  | 30 => ⟨S_, .f32⟩
  | 31 => ⟨S_, .f32⟩
  | 32 => ⟨S16x1, .f32⟩
  | 33 => ⟨S16x1, .f32⟩
  | 34 => ⟨S16x64, .f32⟩
  | 35 => ⟨S16x64, .f32⟩
  | 36 => ⟨S16x64, .f32⟩
  | 37 => ⟨S_, .f32⟩
  | 38 => ⟨S16, .f32⟩
  | 39 => ⟨S16, .f32⟩
  | 40 => ⟨S16, .f32⟩
  | 41 => ⟨S16, .f32⟩
  | 42 => ⟨S_, .f32⟩
  | 43 => ⟨S16, .f32⟩
  | 44 => ⟨S16, .f32⟩
  | 45 => ⟨S16, .f32⟩
  | 46 => ⟨S16, .f32⟩
  | 47 => ⟨S_, .f32⟩
  | 48 => ⟨S_, .f32⟩
  | _ => ⟨S16x512x2048, .f32⟩

abbrev hbmTy (i : Nat) : BufTy := match i / 128 with
  | 0 => hbmTy0_0 i
  | 1 => hbmTy0_1 i
  | _ => ⟨S16x512x2048, .f32⟩

abbrev bufTy : (tb : Table) → Fin (tcTables nBuf tb) → BufTy
  | .hbm, ⟨i, _⟩ => hbmTy i
  | _, _ => ⟨S16x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_v13 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_3 : Ref sig .tc := ⟨.hbm, 45, rfl⟩
abbrev main_v31 : Ref sig .tc := ⟨.hbm, 46, rfl⟩
abbrev main_v32 : Ref sig .tc := ⟨.hbm, 47, rfl⟩
abbrev main_c_4 : Ref sig .tc := ⟨.hbm, 48, rfl⟩
abbrev main_v33_0 : Ref sig .tc := ⟨.hbm, 49, rfl⟩
abbrev main_v33_1 : Ref sig .tc := ⟨.hbm, 50, rfl⟩
abbrev main_v33_2 : Ref sig .tc := ⟨.hbm, 51, rfl⟩
abbrev main_v33_3 : Ref sig .tc := ⟨.hbm, 52, rfl⟩
abbrev main_v33_4 : Ref sig .tc := ⟨.hbm, 53, rfl⟩
abbrev main_v33_5 : Ref sig .tc := ⟨.hbm, 54, rfl⟩
abbrev main_v33_6 : Ref sig .tc := ⟨.hbm, 55, rfl⟩
abbrev main_v33_7 : Ref sig .tc := ⟨.hbm, 56, rfl⟩
abbrev main_v33_8 : Ref sig .tc := ⟨.hbm, 57, rfl⟩
abbrev main_while0c_c_22 : Ref sig .tc := ⟨.hbm, 58, rfl⟩
abbrev main_while0c_v69 : Ref sig .tc := ⟨.hbm, 59, rfl⟩
abbrev main_while0b_call0_c : Ref sig .tc := ⟨.hbm, 60, rfl⟩
abbrev main_while0b_call0_c_0 : Ref sig .tc := ⟨.hbm, 61, rfl⟩
abbrev main_while0b_call0_v0 : Ref sig .tc := ⟨.hbm, 62, rfl⟩
abbrev main_while0b_v69 : Ref sig .tc := ⟨.hbm, 63, rfl⟩
abbrev main_while0b_call1_c : Ref sig .tc := ⟨.hbm, 64, rfl⟩
abbrev main_while0b_call1_c_0 : Ref sig .tc := ⟨.hbm, 65, rfl⟩
abbrev main_while0b_call1_v0 : Ref sig .tc := ⟨.hbm, 66, rfl⟩
abbrev main_while0b_v70 : Ref sig .tc := ⟨.hbm, 67, rfl⟩
abbrev main_while0b_call2_v0 : Ref sig .tc := ⟨.hbm, 68, rfl⟩
abbrev main_while0b_v71 : Ref sig .tc := ⟨.hbm, 69, rfl⟩
abbrev main_while0b_v72 : Ref sig .tc := ⟨.hbm, 70, rfl⟩
abbrev main_while0b_v73 : Ref sig .tc := ⟨.hbm, 71, rfl⟩
abbrev main_while0b_v74 : Ref sig .tc := ⟨.hbm, 72, rfl⟩
abbrev main_while0b_cst_22 : Ref sig .tc := ⟨.hbm, 73, rfl⟩
abbrev main_while0b_v75 : Ref sig .tc := ⟨.hbm, 74, rfl⟩
abbrev main_while0b_v76 : Ref sig .tc := ⟨.hbm, 75, rfl⟩
abbrev main_while0b_v77 : Ref sig .tc := ⟨.hbm, 76, rfl⟩
abbrev main_while0b_cst_23 : Ref sig .tc := ⟨.hbm, 77, rfl⟩
abbrev main_while0b_v78 : Ref sig .tc := ⟨.hbm, 78, rfl⟩
abbrev main_while0b_v79 : Ref sig .tc := ⟨.hbm, 79, rfl⟩
abbrev main_while0b_cst_24 : Ref sig .tc := ⟨.hbm, 80, rfl⟩
abbrev main_while0b_call3_v0 : Ref sig .tc := ⟨.hbm, 81, rfl⟩
abbrev main_while0b_call3_v1 : Ref sig .tc := ⟨.hbm, 82, rfl⟩
abbrev main_while0b_v80 : Ref sig .tc := ⟨.hbm, 83, rfl⟩
abbrev main_while0b_v81 : Ref sig .tc := ⟨.hbm, 84, rfl⟩
abbrev main_while0b_v82 : Ref sig .tc := ⟨.hbm, 85, rfl⟩
abbrev main_while0b_v83 : Ref sig .tc := ⟨.hbm, 86, rfl⟩
abbrev main_while0b_cst_25 : Ref sig .tc := ⟨.hbm, 87, rfl⟩
abbrev main_while0b_v84 : Ref sig .tc := ⟨.hbm, 88, rfl⟩
abbrev main_while0b_v85 : Ref sig .tc := ⟨.hbm, 89, rfl⟩
abbrev main_while0b_v86 : Ref sig .tc := ⟨.hbm, 90, rfl⟩
abbrev main_while0b_v87 : Ref sig .tc := ⟨.hbm, 91, rfl⟩
abbrev main_while0b_v88 : Ref sig .tc := ⟨.hbm, 92, rfl⟩
abbrev main_while0b_v89 : Ref sig .tc := ⟨.hbm, 93, rfl⟩
abbrev main_while0b_v90 : Ref sig .tc := ⟨.hbm, 94, rfl⟩
abbrev main_while0b_v91 : Ref sig .tc := ⟨.hbm, 95, rfl⟩
abbrev main_while0b_call4_v0 : Ref sig .tc := ⟨.hbm, 96, rfl⟩
abbrev main_while0b_v92 : Ref sig .tc := ⟨.hbm, 97, rfl⟩
abbrev main_while0b_v93 : Ref sig .tc := ⟨.hbm, 98, rfl⟩
abbrev main_while0b_v94 : Ref sig .tc := ⟨.hbm, 99, rfl⟩
abbrev main_while0b_v95 : Ref sig .tc := ⟨.hbm, 100, rfl⟩
abbrev main_while0b_cst_26 : Ref sig .tc := ⟨.hbm, 101, rfl⟩
abbrev main_while0b_v96 : Ref sig .tc := ⟨.hbm, 102, rfl⟩
abbrev main_while0b_v97 : Ref sig .tc := ⟨.hbm, 103, rfl⟩
abbrev main_while0b_v98 : Ref sig .tc := ⟨.hbm, 104, rfl⟩
abbrev main_while0b_cst_27 : Ref sig .tc := ⟨.hbm, 105, rfl⟩
abbrev main_while0b_v99 : Ref sig .tc := ⟨.hbm, 106, rfl⟩
abbrev main_while0b_v100 : Ref sig .tc := ⟨.hbm, 107, rfl⟩
abbrev main_while0b_cst_28 : Ref sig .tc := ⟨.hbm, 108, rfl⟩
abbrev main_while0b_call5_v0 : Ref sig .tc := ⟨.hbm, 109, rfl⟩
abbrev main_while0b_call5_v1 : Ref sig .tc := ⟨.hbm, 110, rfl⟩
abbrev main_while0b_v101 : Ref sig .tc := ⟨.hbm, 111, rfl⟩
abbrev main_while0b_v102 : Ref sig .tc := ⟨.hbm, 112, rfl⟩
abbrev main_while0b_v103 : Ref sig .tc := ⟨.hbm, 113, rfl⟩
abbrev main_while0b_v104 : Ref sig .tc := ⟨.hbm, 114, rfl⟩
abbrev main_while0b_cst_29 : Ref sig .tc := ⟨.hbm, 115, rfl⟩
abbrev main_while0b_v105 : Ref sig .tc := ⟨.hbm, 116, rfl⟩
abbrev main_while0b_v106 : Ref sig .tc := ⟨.hbm, 117, rfl⟩
abbrev main_while0b_v107 : Ref sig .tc := ⟨.hbm, 118, rfl⟩
abbrev main_while0b_v108 : Ref sig .tc := ⟨.hbm, 119, rfl⟩
abbrev main_while0b_v109 : Ref sig .tc := ⟨.hbm, 120, rfl⟩
abbrev main_while0b_v110 : Ref sig .tc := ⟨.hbm, 121, rfl⟩
abbrev main_while0b_v111 : Ref sig .tc := ⟨.hbm, 122, rfl⟩
abbrev main_while0b_v112 : Ref sig .tc := ⟨.hbm, 123, rfl⟩
abbrev main_while0b_call6_v0 : Ref sig .tc := ⟨.hbm, 124, rfl⟩
abbrev main_while0b_v113 : Ref sig .tc := ⟨.hbm, 125, rfl⟩
abbrev main_while0b_c_30 : Ref sig .tc := ⟨.hbm, 126, rfl⟩
abbrev main_while0b_v114 : Ref sig .tc := ⟨.hbm, 127, rfl⟩
abbrev main_v34 : Ref sig .tc := ⟨.hbm, 128, rfl⟩
abbrev main_v35 : Ref sig .tc := ⟨.hbm, 129, rfl⟩
abbrev main_v36 : Ref sig .tc := ⟨.hbm, 130, rfl⟩
abbrev main_cst : Ref sig .tc := ⟨.hbm, 131, rfl⟩
abbrev main_v37 : Ref sig .tc := ⟨.hbm, 132, rfl⟩
abbrev main_v38 : Ref sig .tc := ⟨.hbm, 133, rfl⟩
abbrev main_v39 : Ref sig .tc := ⟨.hbm, 134, rfl⟩
abbrev main_cst_5 : Ref sig .tc := ⟨.hbm, 135, rfl⟩
abbrev main_v40 : Ref sig .tc := ⟨.hbm, 136, rfl⟩
abbrev main_v41 : Ref sig .tc := ⟨.hbm, 137, rfl⟩
abbrev main_cst_6 : Ref sig .tc := ⟨.hbm, 138, rfl⟩
abbrev main_call7_v0 : Ref sig .tc := ⟨.hbm, 139, rfl⟩
abbrev main_call7_v1 : Ref sig .tc := ⟨.hbm, 140, rfl⟩
abbrev main_v42 : Ref sig .tc := ⟨.hbm, 141, rfl⟩
abbrev main_v43 : Ref sig .tc := ⟨.hbm, 142, rfl⟩
abbrev main_v44 : Ref sig .tc := ⟨.hbm, 143, rfl⟩
abbrev main_v45 : Ref sig .tc := ⟨.hbm, 144, rfl⟩
abbrev main_cst_7 : Ref sig .tc := ⟨.hbm, 145, rfl⟩
abbrev main_v46 : Ref sig .tc := ⟨.hbm, 146, rfl⟩
abbrev main_v47 : Ref sig .tc := ⟨.hbm, 147, rfl⟩
abbrev main_v48 : Ref sig .tc := ⟨.hbm, 148, rfl⟩
abbrev main_v49 : Ref sig .tc := ⟨.hbm, 149, rfl⟩
abbrev main_v50 : Ref sig .tc := ⟨.hbm, 150, rfl⟩
abbrev main_cst_8 : Ref sig .tc := ⟨.hbm, 151, rfl⟩
abbrev main_v51 : Ref sig .tc := ⟨.hbm, 152, rfl⟩
abbrev main_v52 : Ref sig .tc := ⟨.hbm, 153, rfl⟩
abbrev main_v53 : Ref sig .tc := ⟨.hbm, 154, rfl⟩
abbrev main_cst_9 : Ref sig .tc := ⟨.hbm, 155, rfl⟩
abbrev main_v54 : Ref sig .tc := ⟨.hbm, 156, rfl⟩
abbrev main_v55 : Ref sig .tc := ⟨.hbm, 157, rfl⟩
abbrev main_cst_10 : Ref sig .tc := ⟨.hbm, 158, rfl⟩
abbrev main_call8_v0 : Ref sig .tc := ⟨.hbm, 159, rfl⟩
abbrev main_call8_v1 : Ref sig .tc := ⟨.hbm, 160, rfl⟩
abbrev main_v56 : Ref sig .tc := ⟨.hbm, 161, rfl⟩
abbrev main_v57 : Ref sig .tc := ⟨.hbm, 162, rfl⟩
abbrev main_v58 : Ref sig .tc := ⟨.hbm, 163, rfl⟩
abbrev main_v59 : Ref sig .tc := ⟨.hbm, 164, rfl⟩
abbrev main_cst_11 : Ref sig .tc := ⟨.hbm, 165, rfl⟩
abbrev main_v60 : Ref sig .tc := ⟨.hbm, 166, rfl⟩
abbrev main_v61 : Ref sig .tc := ⟨.hbm, 167, rfl⟩
abbrev main_v62 : Ref sig .tc := ⟨.hbm, 168, rfl⟩
abbrev main_v63 : Ref sig .tc := ⟨.hbm, 169, rfl⟩
abbrev main_cst_12 : Ref sig .tc := ⟨.hbm, 170, rfl⟩
abbrev main_v64 : Ref sig .tc := ⟨.hbm, 171, rfl⟩
abbrev main_v65 : Ref sig .tc := ⟨.hbm, 172, rfl⟩
abbrev main_v66 : Ref sig .tc := ⟨.hbm, 173, rfl⟩
abbrev main_v67 : Ref sig .tc := ⟨.hbm, 174, rfl⟩
abbrev main_cst_13 : Ref sig .tc := ⟨.hbm, 175, rfl⟩
abbrev main_v68 : Ref sig .tc := ⟨.hbm, 176, rfl⟩

abbrev nD : Nat := 1
abbrev τ : Topo := Topo.v7x

variable {F : FTy → Type} [FloatOps F]

abbrev main_while0_count : Scf.Loop 32 := ⟨0#32, 511#32, 1#32⟩
-- ==== Proof.Lse.lean ====
module

public import Idealize.ShloMosaic.PureOps.Ideal.Laws

@[expose] public section

/-! # Logarithms of sums of exponentials over the extended reals

The exponential of a value other than `⊤` is a real, `ex`. A logarithm of a sum of exponentials does not change
when a real is taken off every exponent and put back outside; the kernel takes off the largest exponent, and the
reference takes off the largest exponent when that is real and nothing otherwise. -/

noncomputable section

namespace Cert.Lse

open Idealize.ShloMosaic

/-- The exponential, as a real. -/
def ex (x : EReal) : ℝ := (Ideal.exp x).toReal

/-- The exponential of `⊥` is zero. -/
theorem ex_bot : ex ⊥ = 0 := by show EReal.toReal 0 = 0; exact EReal.toReal_zero

/-- At a real it is the real exponential. -/
theorem ex_coe (r : ℝ) : ex (r : EReal) = Real.exp r := by
  show EReal.toReal (Real.exp r : EReal) = _; exact EReal.toReal_coe _

/-- Below `⊤` the exponential is the real `ex`. -/
theorem exp_eq {x : EReal} (hx : x ≠ ⊤) : Ideal.exp x = ((ex x : ℝ) : EReal) := by
  induction x with
  | bot => rw [ex_bot]; rfl
  | top => exact absurd rfl hx
  | coe r => rw [ex_coe]; rfl

/-- It is not negative. -/
theorem ex_nonneg (x : EReal) : 0 ≤ ex x := by
  induction x with
  | bot => rw [ex_bot]
  | top => exact le_of_eq EReal.toReal_top.symm
  | coe r => rw [ex_coe]; exact (Real.exp_pos r).le

/-- It is positive at a real. -/
theorem ex_pos {x : EReal} (hb : x ≠ ⊥) (ht : x ≠ ⊤) : 0 < ex x := by
  induction x with
  | bot => exact absurd rfl hb
  | top => exact absurd rfl ht
  | coe r => rw [ex_coe]; exact Real.exp_pos r

/-- The exponential of a sum is the product of the exponentials. -/
theorem ex_add {x y : EReal} (hx : x ≠ ⊤) (hy : y ≠ ⊤) : ex (x + y) = ex x * ex y := by
  induction x with
  | bot => rw [EReal.bot_add, ex_bot, zero_mul]
  | top => exact absurd rfl hx
  | coe r =>
    induction y with
    | bot => rw [EReal.add_bot, ex_bot, mul_zero]
    | top => exact absurd rfl hy
    | coe s => rw [← EReal.coe_add, ex_coe, ex_coe, ex_coe, Real.exp_add]

/-- Taking a real off the exponent divides the exponential. -/
theorem ex_sub (x : EReal) (hx : x ≠ ⊤) (s : ℝ) : ex (x - (s : EReal)) = ex x * Real.exp (-s) := by
  rw [sub_eq_add_neg, ← EReal.coe_neg, ex_add hx (EReal.coe_ne_top _), ex_coe]

/-- A real taken off a value below `⊤` leaves it below `⊤`. -/
theorem sub_ne_top {x : EReal} (hx : x ≠ ⊤) (s : ℝ) : x - (s : EReal) ≠ ⊤ := by
  rw [sub_eq_add_neg, ← EReal.coe_neg]
  exact EReal.add_ne_top hx (EReal.coe_ne_top _)

/-- The logarithm of a real is below `⊤`. -/
theorem log_ne_top (T : ℝ) : Ideal.log (T : EReal) ≠ ⊤ := by
  show (if T ≤ 0 then (⊥ : EReal) else (Real.log T : EReal)) ≠ ⊤
  split
  · exact bot_ne_top
  · exact EReal.coe_ne_top _

/-- The logarithm of a positive real is real. -/
theorem log_pos {T : ℝ} (hT : 0 < T) : Ideal.log (T : EReal) = ((Real.log T : ℝ) : EReal) := by
  show (if T ≤ 0 then (⊥ : EReal) else (Real.log T : EReal)) = _
  rw [if_neg (not_le.mpr hT)]

/-- The logarithm of zero is `⊥`. -/
theorem log_zero : Ideal.log ((0 : ℝ) : EReal) = ⊥ := by
  show (if (0 : ℝ) ≤ 0 then (⊥ : EReal) else (Real.log 0 : EReal)) = _
  rw [if_pos le_rfl]

/-- A factor `exp (-s)` inside the logarithm is undone by adding `s` outside. -/
theorem log_shift {T : ℝ} (hT : 0 ≤ T) (s : ℝ) :
    Ideal.log ((T * Real.exp (-s) : ℝ) : EReal) + (s : EReal) = Ideal.log (T : EReal) := by
  rcases hT.eq_or_lt with h | h
  · rw [← h, zero_mul, log_zero, EReal.bot_add]
  · rw [log_pos h, log_pos (mul_pos h (Real.exp_pos _)), Real.log_mul h.ne' (Real.exp_pos _).ne', Real.log_exp,
      ← EReal.coe_add]
    congr 1; ring

/-- The largest of finitely many values (`⊥` when there are none). -/
def top {n : ℕ} (x : Fin n → EReal) : EReal := (Finset.univ : Finset (Fin n)).fold max ⊥ x

/-- Every value is at most the largest. -/
theorem le_top {n : ℕ} (x : Fin n → EReal) (i : Fin n) : x i ≤ top x :=
  (Finset.le_fold_max _).mpr (Or.inr ⟨i, Finset.mem_univ i, le_rfl⟩)

/-- The largest of values below `⊤` is below `⊤`. -/
theorem top_ne_top {n : ℕ} {x : Fin n → EReal} (hx : ∀ i, x i ≠ ⊤) : top x ≠ ⊤ :=
  ((Finset.fold_max_lt _).mpr ⟨bot_lt_top, fun i _ => lt_top_iff_ne_top.mpr (hx i)⟩).ne

/-- Sums of coerced reals are coerced sums. -/
theorem coe_sum {n : ℕ} (f : Fin n → ℝ) : ((∑ i, f i : ℝ) : EReal) = ∑ i, (f i : EReal) := by
  induction n with
  | zero => simp
  | succ n ih => rw [Fin.sum_univ_succ, Fin.sum_univ_succ, EReal.coe_add, ih]

/-- The logarithm of a sum of exponentials. -/
def lse {n : ℕ} (x : Fin n → EReal) : EReal := Ideal.log ((∑ i, ex (x i) : ℝ) : EReal)

/-- It is below `⊤`. -/
theorem lse_ne_top {n : ℕ} (x : Fin n → EReal) : lse x ≠ ⊤ := log_ne_top _

/-- It is not `⊥` when one exponent is real. -/
theorem lse_ne_bot {n : ℕ} {x : Fin n → EReal} (i : Fin n) (hb : x i ≠ ⊥) (ht : x i ≠ ⊤) : lse x ≠ ⊥ := by
  unfold lse
  rw [log_pos (lt_of_lt_of_le (ex_pos hb ht)
    (Finset.single_le_sum (f := fun i => ex (x i)) (fun i _ => ex_nonneg _) (Finset.mem_univ i)))]
  exact EReal.coe_ne_bot _

/-- The kernel's form: the largest exponent taken off, the weights `exp (y i)` multiplied in afterwards. -/
theorem weighted {n : ℕ} (x y : Fin n → EReal) (hx : ∀ i, x i ≠ ⊤) (hy : ∀ i, y i ≠ ⊤) :
    top x + Ideal.log (∑ i, Ideal.exp (x i - top x) * Ideal.exp (y i)) = lse fun i => x i + y i := by
  have hT := top_ne_top hx
  have hle := le_top x
  generalize top x = M at hT hle ⊢
  induction M with
  | bot =>
    rw [EReal.bot_add]
    unfold lse
    rw [Finset.sum_eq_zero (fun i _ => ?_), log_zero]
    show ex (x i + y i) = 0
    rw [le_bot_iff.mp (hle i), EReal.bot_add, ex_bot]
  | top => exact absurd rfl hT
  | coe s =>
    have : ∀ i, Ideal.exp (x i - (s : EReal)) * Ideal.exp (y i)
        = ((ex (x i + y i) * Real.exp (-s) : ℝ) : EReal) := fun i => by
      rw [exp_eq (sub_ne_top (hx i) s), exp_eq (hy i), ← EReal.coe_mul, ex_sub _ (hx i), ex_add (hx i) (hy i)]
      congr 1; ring
    rw [Finset.sum_congr rfl fun i _ => this i, ← coe_sum, ← Finset.sum_mul, add_comm]
    exact log_shift (Finset.sum_nonneg fun i _ => ex_nonneg _) s

/-- The kernel's form with no weights. -/
theorem shifted {n : ℕ} (x : Fin n → EReal) (hx : ∀ i, x i ≠ ⊤) :
    top x + Ideal.log (∑ i, Ideal.exp (x i - top x)) = lse x := by
  have h := weighted x (fun _ => 0) hx (fun _ => EReal.zero_ne_top)
  have e1 : Ideal.exp 0 = 1 := by
    show ((Real.exp 0 : ℝ) : EReal) = 1
    rw [Real.exp_zero]; rfl
  simp only [add_zero, e1, mul_one] at h
  exact h

/-- What the reference takes off: the largest exponent when it is real, and zero otherwise. -/
def guard {n : ℕ} (x : Fin n → EReal) : EReal := if max (top x) (-top x) < ⊤ then top x else 0

/-- The reference's form. -/
theorem guarded {n : ℕ} (x : Fin n → EReal) (hx : ∀ i, x i ≠ ⊤) :
    Ideal.log (∑ i, Ideal.exp (x i - guard x)) + guard x = lse x := by
  have hg : ∃ s : ℝ, guard x = (s : EReal) := by
    unfold guard
    have hT := top_ne_top hx
    generalize top x = M at hT ⊢
    induction M with
    | bot => exact ⟨0, by simp⟩
    | top => exact absurd rfl hT
    | coe s =>
      refine ⟨s, if_pos ?_⟩
      rw [← EReal.coe_neg]
      exact max_lt (EReal.coe_lt_top _) (EReal.coe_lt_top _)
  obtain ⟨s, hs⟩ := hg
  rw [hs]
  have : ∀ i, Ideal.exp (x i - (s : EReal)) = ((ex (x i) * Real.exp (-s) : ℝ) : EReal) := fun i => by
    rw [exp_eq (sub_ne_top (hx i) s), ex_sub _ (hx i)]
  rw [Finset.sum_congr rfl fun i _ => this i, ← coe_sum, ← Finset.sum_mul]
  exact log_shift (Finset.sum_nonneg fun i _ => ex_nonneg _) s

/-- The negative of a sum of values below `⊤` is the sum of the negatives. -/
theorem neg_sum {n : ℕ} (f : Fin n → EReal) (hf : ∀ i, f i ≠ ⊤) :
    0 - ∑ i, f i = ∑ i, -f i := by
  suffices h : (∑ i, f i ≠ ⊤) ∧ -(∑ i, f i) = ∑ i, -f i by rw [zero_sub]; exact h.2
  induction n with
  | zero => simp
  | succ n ih =>
    obtain ⟨h1, h2⟩ := ih (fun i => f i.succ) fun i => hf _
    rw [Fin.sum_univ_succ, Fin.sum_univ_succ]
    exact ⟨EReal.add_ne_top (hf 0) h1,
      by rw [EReal.neg_add (Or.inr h1) (Or.inl (hf 0)), sub_eq_add_neg, h2]⟩

/-- The pattern of minus infinity is `⊥`. -/
theorem ofBits_neg_inf : Ideal.ofBits .f32 0xFF800000#32 = ⊥ := by simp [Ideal.ofBits, Ideal.ieee]
/-- The pattern of infinity is `⊤`. -/
theorem ofBits_inf : Ideal.ofBits .f32 0x7F800000#32 = ⊤ := by simp [Ideal.ofBits, Ideal.ieee]
/-- The pattern of one is `1`. -/
theorem ofBits_one : Ideal.ofBits .f32 0x3F800000#32 = 1 := by
  simp [Ideal.ofBits, Ideal.ieee]
  rw [← EReal.coe_mul, show (8388608 : ℝ) * (2 ^ 23)⁻¹ = 1 by norm_num]; rfl

end Cert.Lse
-- ==== Proof.RefValue.lean ====
module

public import proofs.«01_k».proof.Proof.Gen.ReferenceIdeal.Step
public import proofs.«01_k».proof.Proof.Lse
public import Idealize.ShloMosaic.Lib.IdealHost
public import Idealize.ShloMosaic.Lib.DynamicIndex
public import Idealize.ShloMosaic.Lib.ValueIdx
public import Idealize.ShloMosaic.Lib.ValueLayout
public import Idealize.ShloMosaic.Lib.ValueIdxRank1
public import Idealize.ShloMosaic.Lib.Pipeline.Value

@[expose] public section

set_option maxRecDepth 16384

noncomputable section

/-! The reference over the extended reals, read at an index: its gathers, one trip of its loop and its last lines. -/

namespace Cert.ReferenceIdeal.RefValue

open Idealize.ShloMosaic Idealize.ShloMosaic.ValueIdx Cert.ReferenceIdeal Cert.ReferenceIdeal.Gen Cert.ReferenceIdeal.Step

/-! ## The trip of one graph -/

section Trip
variable {F : FTy → Type} [FloatOps F]

/-- Every source state's score plus the step's weight: [sequence, source, target]. -/
def scores (a : FVec F S16x64 .f32) (A : FVec F S16x64x64 .f32) : FVec F S16x64x64 .f32 :=
  addf (broadcastInDim S16x64x64 ![0, 1, 2] bcast_S16x64x1_S16x64x64_0_1_2 (broadcastInDim S16x64x1 ![0, 1] bcast_S16x64_S16x64x1_0_1 a)) A

/-- The largest over the sources, [sequence, 1, target]. -/
def largest (z : FVec F S16x64x64 .f32) : FVec F S16x1x64 .f32 :=
  broadcastInDim S16x1x64 ![0, 2] bcast_S16x64_S16x1x64_0_2
    (Host.reduce FloatOps.maximumf z (constant S_ .f32 0xFF800000#32) reducesTo_S16x64x64_S16x64_d1 h_S_)

/-- The largest where it is real, zero elsewhere. -/
def held (z : FVec F S16x64x64 .f32) : FVec F S16x1x64 .f32 :=
  select (cmpf .olt (Host.absf (largest z)) (broadcastInDim S16x1x64 ![] bcast_S_S16x1x64 (constant S_ .f32 0x7F800000#32))) (largest z)
    (broadcastInDim S16x1x64 ![] bcast_S_S16x1x64 (constant S_ .f32 0x00000000#32))

/-- The logarithm of the sum over the sources of the exponentials. -/
def sums (z : FVec F S16x64x64 .f32) : FVec F S16x64 .f32 :=
  addf (Host.log (Host.reduceAdd (Host.exp (subf z (broadcastInDim S16x64x64 ![0, 1, 2] bcast_S16x1x64_S16x64x64_0_1_2 (held z))))
    (constant S_ .f32 0x00000000#32) reducesTo_S16x64x64_S16x64_d1 h_S_)) (shapeCast S16x64 (held z) shapeCasts_S16x1x64_S16x64)

/-- One trip of one graph. -/
def trip (act : IVec S16 1) (a : FVec F S16x64 .f32) (A : FVec F S16x64x64 .f32) (e : FVec F S16x64 .f32) : FVec F S16x64 .f32 :=
  select (broadcastInDim S16x64 ![0, 1] bcast_S16x1_S16x64_0_1 (broadcastInDim S16x1 ![0] bcast_S16_S16x1_0 act)) (addf (sums (scores a A)) e) a

theorem b37_eq (j : ℕ) (s : State F) : b37 j s = trip (b34 j s) s.main_v33_7 s.main_v33_3 (b3 j s) := rfl
theorem b65_eq (j : ℕ) (s : State F) : b65 j s = trip (b62 j s) s.main_v33_8 s.main_v33_5 (b7 j s) := rfl

end Trip

section TripValue

theorem widen_apply (y : FVec Ideal S16x64 .f32) (b : Fin 16) (j : Fin 64) (u : Fin 1) :
    broadcastInDim S16x1x64 ![0, 2] bcast_S16x64_S16x1x64_0_2 y (ix3 b u j) = y (ix2 b j) :=
  congrArg y (funext fun c => by
    match c with
    | ⟨0, _⟩ => rfl
    | ⟨1, _⟩ => rfl)

variable (a : FVec Ideal S16x64 .f32) (A : FVec Ideal S16x64x64 .f32) (z : FVec Ideal S16x64x64 .f32) (b : Fin 16) (j : Fin 64)

theorem scores_apply (i : Fin 64) : scores a A (ix3 b i j) = a (ix2 b i) + A (ix3 b i j) := by
  refine congrArg (· + A (ix3 b i j)) ?_
  refine congrArg a (funext fun c => ?_)
  match c with
  | ⟨0, _⟩ => rfl
  | ⟨1, _⟩ => rfl

theorem reduces_mid : S16x64x64.Reduces [1] S16x64 := by decide

theorem lift_mid (i : Fin 64) : reduces_mid.lift (ix2 b j) i = ix3 b i j := by
  funext c; match c with
  | ⟨0, _⟩ => rfl
  | ⟨1, _⟩ => rfl
  | ⟨2, _⟩ => rfl

theorem largest_apply (u : Fin 1) : largest z (ix3 b u j) = Lse.top fun i => z (ix3 b i j) := by
  have e : largest z (ix3 b u j)
      = Host.reduce FloatOps.maximumf z (constant S_ .f32 0xFF800000#32) reducesTo_S16x64x64_S16x64_d1 h_S_ (ix2 b j) := by
    unfold largest
    exact widen_apply _ _ _ _
  rw [e, Host.reduce_eq_fold_single FloatOps.maximumf z _ reducesTo_S16x64x64_S16x64_d1 reduces_mid h_S_]
  have hb : (constant S_ .f32 0xFF800000#32 : FVec Ideal S_ .f32) (Shape.Idx.first h_S_) = (⊥ : EReal) := Lse.ofBits_neg_inf
  rw [hb]
  unfold Lse.top
  exact congrArg (fun f => Finset.fold max (⊥ : EReal) f (Finset.univ : Finset (Fin 64))) (funext fun i => congrArg z (lift_mid b j i))

/-- A choice by "the absolute value is below infinity". -/
theorem guard_select {n : ℕ} (x : Fin n → EReal) :
    Scalar.select (FloatOps.cmpf (F := Ideal) (φ := .f32) .olt (max (Lse.top x) (-Lse.top x)) (Ideal.ofBits .f32 0x7F800000#32)) (Lse.top x)
      (Ideal.ofBits .f32 0x00000000#32) = Lse.guard x := by
  rw [Lse.ofBits_inf, Ideal.ofBits_zero_f32, Ideal.cmpf_def]
  unfold Ideal.cmp Lse.guard
  by_cases h : max (Lse.top x) (-Lse.top x) < ⊤
  · rw [if_pos h]; simp only [h, decide_true]; exact select_one _ _
  · rw [if_neg h]; simp only [h, decide_false]; exact select_zero _ _

theorem held_apply (u : Fin 1) : held z (ix3 b u j) = Lse.guard fun i => z (ix3 b i j) := by
  rw [← guard_select, ← largest_apply z b j u]
  rfl

/-- The logarithm of the sum of exponentials. -/
theorem sums_apply (hz : ∀ i, z (ix3 b i j) ≠ ⊤) : sums z (ix2 b j) = Lse.lse fun i => z (ix3 b i j) := by
  refine Eq.trans ?_ (Lse.guarded (fun i => z (ix3 b i j)) hz)
  refine congrArg₂ (fun p q => Ideal.log p + q) ?_ ?_
  · refine (hostReduceAdd_apply _ _ reducesTo_S16x64x64_S16x64_d1 h_S_ _).trans ?_
    rw [Ideal.hostReduceAdd_single reducesTo_S16x64x64_S16x64_d1 reduces_mid]
    refine (congrArg (· + _) Ideal.ofBits_zero_f32).trans ((zero_add _).trans (Finset.sum_congr rfl fun (i : Fin 64) _ => ?_))
    rw [lift_mid]
    show Ideal.exp (z (ix3 b i j) - held z _) = _
    rw [← held_apply z b j 0]
    refine congrArg (fun y => Ideal.exp (z (ix3 b i j) - held z y)) (funext fun c => ?_)
    match c with
    | ⟨0, _⟩ => rfl
    | ⟨1, _⟩ => rfl
    | ⟨2, _⟩ => rfl
  · rw [← held_apply z b j 0]
    refine shapeCast_apply _ _ _ _ ?_
    rw [Shape.rowMajor_val_three, Shape.rowMajor_val_two]
    show (b.val * 1 + 0) * 64 + j.val = b.val * 64 + j.val
    omega

/-- One trip of one graph at one sequence and state. -/
theorem trip_apply (act : IVec S16 1) (e : FVec Ideal S16x64 .f32) (hz : ∀ i, a (ix2 b i) + A (ix3 b i j) ≠ ⊤) :
    trip act a A e (ix2 b j)
      = if act (ix1 b) = 1#1 then Lse.lse (fun i => a (ix2 b i) + A (ix3 b i j)) + e (ix2 b j) else a (ix2 b j) := by
  have h : broadcastInDim S16x64 ![0, 1] bcast_S16x1_S16x64_0_1 (broadcastInDim S16x1 ![0] bcast_S16_S16x1_0 act) (ix2 b j) = act (ix1 b) :=
    congrArg act (funext fun c => by
      match c with
      | ⟨0, _⟩ => rfl)
  unfold trip
  rw [select_apply, h]
  have hs : addf (sums (scores a A)) e (ix2 b j) = Lse.lse (fun i => a (ix2 b i) + A (ix3 b i j)) + e (ix2 b j) := by
    rw [addf_apply, sums_apply _ b j (fun i => by rw [scores_apply]; exact hz i)]
    simp only [scores_apply]
  split
  · next h1 => rw [h1, select_one, hs]
  · next h1 => rw [eq_zero_of_ne_one h1, select_zero]

end TripValue

/-! ## What a trip reads -/

/-- The bit of a trip: the frame number below the sequence's length. -/
theorem active_apply (j : ℕ) (hj : j < 511) (s : State Ideal) (b : Fin 16) :
    b34 j s (ix1 b) = IntOp.cmpi .slt (BitVec.ofNat 32 (j + 1)) (s.main_v33_4 (ix1 b)) := by
  refine congrArg (IntOp.cmpi .slt · (s.main_v33_4 (ix1 b))) ?_
  have e : b8 j s = extractStridedSlice S1 ![j] K_main_v32 ⟨rfl, fun a => by
      match a with
      | ⟨0, _⟩ => show j + 1 ≤ 511; omega⟩ := by
    unfold b8
    refine Host.dynamicSlice_eq_extractStridedSlice _ _ _ _ _ _ fun a => ?_
    match a with
    | ⟨0, _⟩ =>
      show (BitVec.ofNat 32 j).toInt = (j : Int)
      exact toInt_ofNat_of_lt (by omega)
  refine (shapeCast_apply (b8 j s) shapeCasts_S1_S_ _ (ix1 (0 : Fin 1)) ?_).trans ?_
  · rw [Shape.rowMajor_val_one]
    exact (Nat.lt_one_iff.1 (S_.rowMajor _).isLt).symm
  rw [e]
  refine (extractStridedSlice_apply _ _ _ _ (ix1 (⟨j, hj⟩ : Fin 511)) fun a => ?_).trans ?_
  · match a with
    | ⟨0, _⟩ => rfl
  · show (1#32 : BitVec 32) + BitVec.ofNat 32 j = _
    rw [Nat.add_comm j 1, BitVec.ofNat_add]

theorem active_same (j : ℕ) (s : State Ideal) : b62 j s = b34 j s := rfl

/-- The numerator's emissions of a trip: row `j`. -/
theorem frame_num (j : Fin 511) (s : State Ideal) (b : Fin 16) (k : Fin 64) : b3 j.val s (ix2 b k) = s.main_v33_0 (ix3 j b k) := by
  have e : b2 j.val s = extractStridedSlice S1x16x64 ![j.val, 0, 0] s.main_v33_0 ⟨rfl, fun a => by
      match a with
      | ⟨0, _⟩ => show j.val + 1 ≤ 511; omega
      | ⟨1, _⟩ => exact le_rfl
      | ⟨2, _⟩ => exact le_rfl⟩ := by
    unfold b2
    refine Host.dynamicSlice_eq_extractStridedSlice _ _ _ _ _ _ fun a => ?_
    match a with
    | ⟨0, _⟩ => exact toInt_ofNat_of_lt (by omega)
    | ⟨1, _⟩ => rfl
    | ⟨2, _⟩ => rfl
  unfold b3
  rw [e]
  refine (shapeCast_1ab_ab_apply _ _ b k).trans (extractStridedSlice_apply _ _ _ _ _ fun a => ?_)
  match a with
  | ⟨0, _⟩ => rfl
  | ⟨1, _⟩ => exact (Nat.zero_add _).symm
  | ⟨2, _⟩ => exact (Nat.zero_add _).symm

/-- The denominator's emissions of a trip: row `j`. -/
theorem frame_den (j : Fin 511) (s : State Ideal) (b : Fin 16) (k : Fin 64) : b7 j.val s (ix2 b k) = s.main_v33_1 (ix3 j b k) := by
  have e : b6 j.val s = extractStridedSlice S1x16x64 ![j.val, 0, 0] s.main_v33_1 ⟨rfl, fun a => by
      match a with
      | ⟨0, _⟩ => show j.val + 1 ≤ 511; omega
      | ⟨1, _⟩ => exact le_rfl
      | ⟨2, _⟩ => exact le_rfl⟩ := by
    unfold b6
    refine Host.dynamicSlice_eq_extractStridedSlice _ _ _ _ _ _ fun a => ?_
    match a with
    | ⟨0, _⟩ => exact toInt_ofNat_of_lt (by omega)
    | ⟨1, _⟩ => rfl
    | ⟨2, _⟩ => rfl
  unfold b7
  rw [e]
  refine (shapeCast_1ab_ab_apply _ _ b k).trans (extractStridedSlice_apply _ _ _ _ _ fun a => ?_)
  match a with
  | ⟨0, _⟩ => rfl
  | ⟨1, _⟩ => exact (Nat.zero_add _).symm
  | ⟨2, _⟩ => exact (Nat.zero_add _).symm

/-! ## The gathers -/

/-- The gather reads, for a sequence and a state, the column its word names. -/
theorem gather_apply (x : FVec Ideal S16x512x2048 .f32) (w : IVec S16x64x1 32) (b : Fin 16) (t : Fin 512) (j : Fin 64) (q : Fin 2048)
    (hq : (w (ix3 b j 0)).toInt = (q.val : Int)) :
    Host.gather gather_S16x512x2048_S16x64x1_S16x512x64_1_2_0_0_2_2_15121 x w (ix3 b t j) = x (ix3 b t q) := by
  unfold Host.gather
  refine congrArg x (funext fun c => Fin.ext ?_)
  match c with
  | ⟨0, _⟩ =>
    show 0 + b.val + 0 = b.val
    omega
  | ⟨1, _⟩ =>
    show 0 + 0 + t.val = t.val
    omega
  | ⟨2, _⟩ =>
    have hi : gather_S16x512x2048_S16x64x1_S16x512x64_1_2_0_0_2_2_15121.siIdx (ix3 b t j) (⟨0, by decide⟩ : Fin _) = ix3 b j 0 := by
      funext c; match c with
      | ⟨0, _⟩ => rfl
      | ⟨1, _⟩ => rfl
      | ⟨2, _⟩ => rfl
    show min (w (gather_S16x512x2048_S16x64x1_S16x512x64_1_2_0_0_2_2_15121.siIdx (ix3 b t j) (⟨0, by decide⟩ : Fin _))).toInt.toNat (2048 - 1) + 0 + 0 = q.val
    rw [hi, hq, Int.toNat_natCast]
    omega

section Columns
variable (x : FVec Ideal S16x512x2048 .f32) (f : FVec Ideal S16x64 .f32) (n : IVec S16x64 32) (g : FVec Ideal S64x64 .f32)
  (h : FVec Ideal S64 .f32) (d : IVec S64 32)

/-- A word below 2048 is the number it spells. -/
theorem word_toInt {w : BitVec 32} {q : Fin 2048} (h : w.toNat = q.val) : w.toInt = (q.val : Int) := by
  rw [BitVec.toInt_eq_toNat_of_lt (by omega), h]

/-- A word below 2048 is not negative, so wrapping leaves it. -/
theorem wrap_word {w z : BitVec 32} {q : Fin 2048} (h : w.toNat = q.val) : Scalar.select (IntOp.cmpi .slt w 0#32) z w = w := by
  have : IntOp.cmpi .slt w 0#32 = 0#1 := by
    have ht := word_toInt h
    have : BitVec.slt w 0#32 = false := by
      rw [BitVec.slt_eq_decide]
      simp [ht]
    show BitVec.ofBool (BitVec.slt w 0#32) = 0#1
    rw [this]; rfl
  rw [this, select_zero]

/-- The numerator's emissions. -/
theorem emit_num (b : Fin 16) (t : Fin 512) (j : Fin 64) (q : Fin 2048) (hq : (n (ix2 b j)).toNat = q.val) :
    A_main_v12 (F := Ideal) x f n g h d (ix3 b t j) = x (ix3 b t q) := by
  refine gather_apply x _ b t j q ?_
  have e : A_main_v11 (F := Ideal) x f n g h d (ix3 b j 0) = A_main_v10 (F := Ideal) x f n g h d (ix2 b j) := congrArg (A_main_v10 (F := Ideal) x f n g h d) (funext fun c => by
    match c with
    | ⟨0, _⟩ => rfl
    | ⟨1, _⟩ => rfl)
  have w : A_main_v10 (F := Ideal) x f n g h d (ix2 b j) = n (ix2 b j) := wrap_word hq
  rw [e, w]; exact word_toInt hq

/-- The denominator's emissions. -/
theorem emit_den (b : Fin 16) (t : Fin 512) (j : Fin 64) (q : Fin 2048) (hq : (d (ix1 j)).toNat = q.val) :
    A_main_v19 (F := Ideal) x f n g h d (ix3 b t j) = x (ix3 b t q) := by
  refine gather_apply x _ b t j q ?_
  have e : A_main_v18 (F := Ideal) x f n g h d (ix3 b j 0) = A_main_v17 (F := Ideal) x f n g h d (ix2 b j) := congrArg (A_main_v17 (F := Ideal) x f n g h d) (funext fun c => by
    match c with
    | ⟨0, _⟩ => rfl
    | ⟨1, _⟩ => rfl)
  have e5 : A_main_v5 (F := Ideal) x f n g h d (ix2 b j) = d (ix1 j) := congrArg d (funext fun c => by
    match c with
    | ⟨0, _⟩ => rfl)
  have w : A_main_v17 (F := Ideal) x f n g h d (ix2 b j) = A_main_v5 (F := Ideal) x f n g h d (ix2 b j) := wrap_word (q := q) (by rw [e5]; exact hq)
  rw [e, w, e5]; exact word_toInt hq

/-- The first scores of the numerator. -/
theorem first_num (b : Fin 16) (j : Fin 64) (q : Fin 2048) (hq : (n (ix2 b j)).toNat = q.val) :
    A_main_v22 (F := Ideal) x f n g h d (ix2 b j) = f (ix2 b j) + x (ix3 b 0 q) := by
  refine congrArg (f (ix2 b j) + ·) ?_
  rw [← emit_num x f n g h d b 0 j q hq]
  refine (shapeCast_apply _ _ _ (ix3 b 0 j) ?_).trans (extractStridedSlice_apply _ _ _ _ _ fun a => ?_)
  · rw [Shape.rowMajor_val_three, Shape.rowMajor_val_two]
    show (b.val * 1 + 0) * 64 + j.val = b.val * 64 + j.val
    omega
  · match a with
    | ⟨0, _⟩ => exact (Nat.zero_add _).symm
    | ⟨1, _⟩ => rfl
    | ⟨2, _⟩ => exact (Nat.zero_add _).symm

/-- The first scores of the denominator. -/
theorem first_den (b : Fin 16) (j : Fin 64) (q : Fin 2048) (hq : (d (ix1 j)).toNat = q.val) :
    A_main_v25 (F := Ideal) x f n g h d (ix2 b j) = h (ix1 j) + x (ix3 b 0 q) := by
  refine congrArg₂ (· + ·) (congrArg h (funext fun c => by
    match c with
    | ⟨0, _⟩ => rfl)) ?_
  rw [← emit_den x f n g h d b 0 j q hq]
  refine (shapeCast_apply _ _ _ (ix3 b 0 j) ?_).trans (extractStridedSlice_apply _ _ _ _ _ fun a => ?_)
  · rw [Shape.rowMajor_val_three, Shape.rowMajor_val_two]
    show (b.val * 1 + 0) * 64 + j.val = b.val * 64 + j.val
    omega
  · match a with
    | ⟨0, _⟩ => exact (Nat.zero_add _).symm
    | ⟨1, _⟩ => rfl
    | ⟨2, _⟩ => exact (Nat.zero_add _).symm

/-- The later frames' emissions of the numerator, frame first. -/
theorem rest_num (t : Fin 511) (b : Fin 16) (j : Fin 64) (q : Fin 2048) (hq : (n (ix2 b j)).toNat = q.val) :
    A_main_v27 (F := Ideal) x f n g h d (ix3 t b j) = x (ix3 b ⟨t.val + 1, by omega⟩ q) := by
  rw [← emit_num x f n g h d b ⟨t.val + 1, by omega⟩ j q hq]
  refine (extractStridedSlice_apply _ _ _ _ (ix3 (⟨t.val + 1, by omega⟩ : Fin 512) b j) fun a => ?_).trans ?_
  · match a with
    | ⟨0, _⟩ => exact Nat.add_comm _ _
    | ⟨1, _⟩ => exact (Nat.zero_add _).symm
    | ⟨2, _⟩ => exact (Nat.zero_add _).symm
  · refine transpose_apply _ _ _ _ _ fun a => ?_
    match a with
    | ⟨0, _⟩ => rfl
    | ⟨1, _⟩ => rfl
    | ⟨2, _⟩ => rfl

/-- The later frames' emissions of the denominator, frame first. -/
theorem rest_den (t : Fin 511) (b : Fin 16) (j : Fin 64) (q : Fin 2048) (hq : (d (ix1 j)).toNat = q.val) :
    A_main_v29 (F := Ideal) x f n g h d (ix3 t b j) = x (ix3 b ⟨t.val + 1, by omega⟩ q) := by
  rw [← emit_den x f n g h d b ⟨t.val + 1, by omega⟩ j q hq]
  refine (extractStridedSlice_apply _ _ _ _ (ix3 (⟨t.val + 1, by omega⟩ : Fin 512) b j) fun a => ?_).trans ?_
  · match a with
    | ⟨0, _⟩ => exact Nat.add_comm _ _
    | ⟨1, _⟩ => exact (Nat.zero_add _).symm
    | ⟨2, _⟩ => exact (Nat.zero_add _).symm
  · refine transpose_apply _ _ _ _ _ fun a => ?_
    match a with
    | ⟨0, _⟩ => rfl
    | ⟨1, _⟩ => rfl
    | ⟨2, _⟩ => rfl

/-- The shared weights, the same for every sequence. -/
theorem shared_apply (b : Fin 16) (i j : Fin 64) : A_main_v1 (F := Ideal) x f n g h d (ix3 b i j) = g (ix2 i j) :=
  congrArg g (funext fun c => by
    match c with
    | ⟨0, _⟩ => rfl
    | ⟨1, _⟩ => rfl)

end Columns

/-! ## The last lines -/

section Last
variable {F : FTy → Type} [FloatOps F]

/-- The largest of a sequence's scores, [sequence, 1]. -/
def endLargest (z : FVec F S16x64 .f32) : FVec F S16x1 .f32 :=
  broadcastInDim S16x1 ![0] bcast_S16_S16x1_0 (Host.reduce FloatOps.maximumf z (constant S_ .f32 0xFF800000#32) reducesTo_S16x64_S16_d1 h_S_)

/-- The largest where it is real, zero elsewhere. -/
def endHeld (z : FVec F S16x64 .f32) : FVec F S16x1 .f32 :=
  select (cmpf .olt (Host.absf (endLargest z)) (broadcastInDim S16x1 ![] bcast_S_S16x1 (constant S_ .f32 0x7F800000#32))) (endLargest z)
    (broadcastInDim S16x1 ![] bcast_S_S16x1 (constant S_ .f32 0x00000000#32))

/-- A sequence's logarithm of the sum of exponentials. -/
def endSums (z : FVec F S16x64 .f32) : FVec F S16 .f32 :=
  addf (Host.log (Host.reduceAdd (Host.exp (subf z (broadcastInDim S16x64 ![0, 1] bcast_S16x1_S16x64_0_1 (endHeld z))))
    (constant S_ .f32 0x00000000#32) reducesTo_S16x64_S16_d1 h_S_)) (shapeCast S16 (endHeld z) shapeCasts_S16x1_S16)

/-- The loss of the two graphs' ending scores. -/
def endLoss (zn zd : FVec F S16x64 .f32) : FVec F S_ .f32 :=
  Host.reduceAdd (Host.negf (subf (endSums zn) (mulf (broadcastInDim S16 ![] bcast_S_S16 (constant S_ .f32 0x3F800000#32)) (endSums zd))))
    (constant S_ .f32 0x00000000#32) reducesTo_S16_S_d0 h_S_

/-- A vector over the states, the same for every sequence. -/
def every (f : FVec F S64 .f32) : FVec F S16x64 .f32 :=
  broadcastInDim S16x64 ![0, 1] bcast_S1x64_S16x64_0_1 (broadcastInDim S1x64 ![1] bcast_S64_S1x64_1 f)

theorem result_eq (s : State F) (arg4 : FVec F S16x64 .f32) (arg8 : FVec F S64 .f32) :
    R_main_v68 s arg4 arg8 = endLoss (addf s.main_v33_7 arg4) (addf s.main_v33_8 (every arg8)) := rfl

end Last

section LastValue
variable (z : FVec Ideal S16x64 .f32) (b : Fin 16)

theorem every_apply (f : FVec Ideal S64 .f32) (j : Fin 64) : every f (ix2 b j) = f (ix1 j) :=
  congrArg f (funext fun c => by
    match c with
    | ⟨0, _⟩ => rfl)

theorem reduces_last : S16x64.Reduces [1] S16 := by decide
theorem lift_last (i : Fin 64) : reduces_last.lift (ix1 b) i = ix2 b i := by
  funext c; match c with
  | ⟨0, _⟩ => rfl
  | ⟨1, _⟩ => rfl

theorem column_word (y : FVec Ideal S16 .f32) (u : Fin 1) : broadcastInDim S16x1 ![0] bcast_S16_S16x1_0 y (ix2 b u) = y (ix1 b) :=
  congrArg y (funext fun c => by
    match c with
    | ⟨0, _⟩ => rfl)

theorem endLargest_apply (u : Fin 1) : endLargest z (ix2 b u) = Lse.top fun i => z (ix2 b i) := by
  unfold endLargest
  rw [column_word, Host.reduce_eq_fold_single FloatOps.maximumf z _ reducesTo_S16x64_S16_d1 reduces_last h_S_]
  have hb : (constant S_ .f32 0xFF800000#32 : FVec Ideal S_ .f32) (Shape.Idx.first h_S_) = (⊥ : EReal) := Lse.ofBits_neg_inf
  rw [hb]
  unfold Lse.top
  exact congrArg (fun f => Finset.fold max (⊥ : EReal) f (Finset.univ : Finset (Fin 64))) (funext fun i => congrArg z (lift_last b i))

theorem endHeld_apply (u : Fin 1) : endHeld z (ix2 b u) = Lse.guard fun i => z (ix2 b i) := by
  rw [← guard_select, ← endLargest_apply z b u]
  rfl

/-- A sequence's logarithm of the sum of exponentials. -/
theorem endSums_apply (hz : ∀ i, z (ix2 b i) ≠ ⊤) : endSums z (ix1 b) = Lse.lse fun i => z (ix2 b i) := by
  refine Eq.trans ?_ (Lse.guarded (fun i => z (ix2 b i)) hz)
  refine congrArg₂ (fun p q => Ideal.log p + q) ?_ ?_
  · refine (hostReduceAdd_apply _ _ reducesTo_S16x64_S16_d1 h_S_ _).trans ?_
    rw [Ideal.hostReduceAdd_single reducesTo_S16x64_S16_d1 reduces_last]
    refine (congrArg (· + _) Ideal.ofBits_zero_f32).trans ((zero_add _).trans (Finset.sum_congr rfl fun (i : Fin 64) _ => ?_))
    rw [lift_last]
    show Ideal.exp (z (ix2 b i) - endHeld z _) = _
    rw [← endHeld_apply z b 0]
    refine congrArg (fun y => Ideal.exp (z (ix2 b i) - endHeld z y)) (funext fun c => ?_)
    match c with
    | ⟨0, _⟩ => rfl
    | ⟨1, _⟩ => rfl
  · rw [← endHeld_apply z b 0]
    refine shapeCast_apply _ _ _ _ ?_
    rw [Shape.rowMajor_val_two, Shape.rowMajor_val_one]
    show b.val * 1 + 0 = b.val
    omega

/-- The loss: over the sequences, the sum of the negated differences. -/
theorem endLoss_apply (zn zd : FVec Ideal S16x64 .f32) (hn : ∀ b i, zn (ix2 b i) ≠ ⊤) (hd : ∀ b i, zd (ix2 b i) ≠ ⊤) (o : Shape.Idx S_) :
    endLoss zn zd o = ∑ b : Fin 16, -((Lse.lse fun j => zn (ix2 b j)) - Lse.lse fun j => zd (ix2 b j)) := by
  refine (hostReduceAdd_apply _ _ reducesTo_S16_S_d0 h_S_ _).trans ?_
  rw [Ideal.hostReduceAdd_total reducesTo_S16_S_d0 (fun b => b.elim0)]
  refine (congrArg (· + _) Ideal.ofBits_zero_f32).trans ((zero_add _).trans (((idxEquiv1 (n := 16)).symm.sum_comp _).symm.trans (Finset.sum_congr rfl fun (i : Fin 16) _ => ?_)))
  show -(endSums zn (ix1 i) - Ideal.ofBits .f32 0x3F800000#32 * endSums zd (ix1 i)) = _
  rw [Lse.ofBits_one, one_mul, endSums_apply zn i (hn i), endSums_apply zd i (hd i)]

end LastValue

end Cert.ReferenceIdeal.RefValue
-- ==== Proof.Steps.lean ====
module

public import proofs.«01_k».proof.KernelIdeal
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Frame

@[expose] public section

set_option maxRecDepth 16384

noncomputable section

/-! The forward kernel's arithmetic, one recursion step of each graph as a function, and every value the generated skeleton
    names written by these functions. -/

namespace Cert.KernelIdeal.Steps

open Idealize.ShloMosaic Idealize.ShloMosaic.TcCoe Idealize.SL Idealize.SL.Sem Cert.KernelIdeal Cert.KernelIdeal.Gen

variable {F : FTy → Type} [FloatOps F]

/-- The row maximum of a [16, 64] block, as a column. -/
def rowMax (a : FVec F S16x64 .f32) : FVec F S16x1 .f32 :=
  shapeCast S16x1 (multiReduction .maximumf [1] S16 a 0xFF800000#32 reduces_S16x64_S16 (.inl rfl) rfl) shapeCasts_S16_S16x1

/-- A column spread over the 64 states. -/
def spread (m : FVec F S16x1 .f32) : FVec F S16x64 .f32 := broadcastTo S16x64 m broadcasts_S16x1_S16x64

/-- A block in the three parts the products read: its head, its rest, its head again. -/
def split3 (p : FVec F S16x64 .f32) : FVec F S16x192 .bf16 :=
  concatenate S16x192 1
    [⟨S16x64, truncf .bf16 p bitsLt_bf16_f32⟩,
     ⟨S16x64, truncf .bf16 (subf p (extf .f32 (truncf .bf16 p bitsLt_bf16_f32 : FVec F S16x64 .bf16) bitsLt_bf16_f32)) bitsLt_bf16_f32⟩,
     ⟨S16x64, truncf .bf16 p bitsLt_bf16_f32⟩] concatenates_S16x64_S16x64_S16x64_S16x192_d1

/-- The numerator's product with every sequence's weights, masked to pairs of sequences and added up: [16, 128]. -/
def pairSums (v16 : FVec F S192x1024 .bf16) (v46 : FVec F S16x8x128 .f32) (p : FVec F S16x64 .f32) : FVec F S16x128 .f32 :=
  multiReduction .add [1] S16x128
    (mulf (shapeCast S16x8x128 (matmul dot_S16x192_S192x1024_S16x1024_1_0_0_1_n_n none (split3 p) v16 (constant S16x1024 .f32 0x00000000#32))
      shapeCasts_S16x1024_S16x8x128) v46) 0x00000000#32 reduces_S16x8x128_S16x128 (.inl rfl) rfl

/-- Its own half of each pair, picked by the sequence's parity. -/
def numSums (v16 : FVec F S192x1024 .bf16) (v46 : FVec F S16x8x128 .f32) (v65 : IVec S16x128 1) (p : FVec F S16x64 .f32) : FVec F S16x64 .f32 :=
  extractStridedSlice S16x64 ![0, 0]
    (select v65
      (concatenate S16x128 1
        [⟨S16x64, extractStridedSlice S16x64 ![0, 64] (pairSums v16 v46 p) slices_S16x128_o0_64_S16x64⟩,
         ⟨S16x64, extractStridedSlice S16x64 ![0, 0] (pairSums v16 v46 p) slices_S16x128_o0_0_S16x64⟩]
        concatenates_S16x64_S16x64_S16x128_d1)
      (pairSums v16 v46 p)) slices_S16x128_o0_0_S16x64

/-- The denominator's product with the shared weights. -/
def denSums (v17 : FVec F S192x64 .bf16) (p : FVec F S16x64 .f32) : FVec F S16x64 .f32 :=
  matmul dot_S16x192_S192x64_S16x64_1_0_0_1_n_n none (split3 p) v17 (constant S16x64 .f32 0x00000000#32)

/-- One frame's emissions. -/
def frame2 (e : Vec F S1x16x128 .f32) : FVec F S16x128 .f32 := shapeCast S16x128 e shapeCasts_S1x16x128_S16x128

/-- The numerator's scores after one frame, for a sequence still running; `d` is the scores less their maximum `m`. -/
def numCand (v16 : FVec F S192x1024 .bf16) (v46 : FVec F S16x8x128 .f32) (v65 : IVec S16x128 1) (d : FVec F S16x64 .f32)
    (m : FVec F S16x1 .f32) (e : Vec F S1x16x128 .f32) : FVec F S16x64 .f32 :=
  addf (addf (spread m) (log (numSums v16 v46 v65 (exp d)))) (extractStridedSlice S16x64 ![0, 0] (frame2 e) slices_S16x128_o0_0_S16x64)

/-- The denominator's scores after one frame, for a sequence still running. -/
def denCand (v17 : FVec F S192x64 .bf16) (d : FVec F S16x64 .f32) (m : FVec F S16x1 .f32) (e : Vec F S1x16x128 .f32) : FVec F S16x64 .f32 :=
  addf (addf (spread m) (log (denSums v17 (exp d)))) (extractStridedSlice S16x64 ![0, 64] (frame2 e) slices_S16x128_o0_64_S16x64)

/-- Row by row: the new scores where the sequence is still running, the old ones where it has ended. -/
def pick (act : IVec S16x1 1) (x y : FVec F S16x64 .f32) : FVec F S16x64 .f32 :=
  select (broadcastTo S16x64 (shapeCast S16x1 act shapeCasts_S16x1_S16x1) broadcasts_S16x1_S16x64) x y

/-- Which sequences are longer than `t`. -/
def running (t : BitVec 32) (v67 : IVec S16x1 32) : IVec S16x1 1 := cmpi .slt (broadcast S16x1 t) v67

/-- One frame of the numerator. -/
def numStep (v16 : FVec F S192x1024 .bf16) (v46 : FVec F S16x8x128 .f32) (v65 : IVec S16x128 1) (act : IVec S16x1 1)
    (a : FVec F S16x64 .f32) (e : Vec F S1x16x128 .f32) : FVec F S16x64 .f32 :=
  pick act (numCand v16 v46 v65 (subf a (spread (rowMax a))) (rowMax a) e) a

/-- One frame of the denominator. -/
def denStep (v17 : FVec F S192x64 .bf16) (act : IVec S16x1 1) (a : FVec F S16x64 .f32) (e : Vec F S1x16x128 .f32) : FVec F S16x64 .f32 :=
  pick act (denCand v17 (subf a (spread (rowMax a))) (rowMax a) e) a

/-! Each value of the skeleton, by these functions. -/

section Payloads
variable (v16 : FVec F S192x1024 .bf16) (v17 : FVec F S192x64 .bf16) (v46 : FVec F S16x8x128 .f32) (v65 : IVec S16x128 1)
  (v67 v412 : IVec S16x1 32) (v66 : Vec F S16x1 .i32) (t : BitVec 32) (k : Fin k1_t1_loop.trips) (act : IVec S16x1 1)
  (a b d : FVec F S16x64 .f32) (m : FVec F S16x1 .f32) (e : Vec F S1x16x128 .f32)

theorem pay4_eq : k1_pay4 v16 v46 v65 v67 0#32 1#32 k a m e
    = pick (running (4#32 * Scf.iv 0#32 1#32 k + 1#32 + 0#32) v67) (numCand v16 v46 v65 (subf a (spread m)) m e) a := rfl
theorem pay5_eq : k1_pay5 v17 v67 0#32 1#32 k a m e
    = pick (running (4#32 * Scf.iv 0#32 1#32 k + 1#32 + 0#32) v67) (denCand v17 (subf a (spread m)) m e) a := rfl
theorem pay7_eq : k1_pay7 v17 a e = denCand v17 (subf a (spread (rowMax a))) (rowMax a) e := rfl
theorem pay8_eq : k1_pay8 v67 t = running (4#32 * t + 1#32 + 1#32) v67 := rfl
theorem pay9_eq : k1_pay9 v16 v46 v65 v67 t a e = numStep v16 v46 v65 (running (4#32 * t + 1#32 + 1#32) v67) a e := rfl
theorem pay10_eq : k1_pay10 a b act = pick act b a := rfl
theorem pay12_eq : k1_pay12 v16 v46 v65 a e = numCand v16 v46 v65 (subf a (spread (rowMax a))) (rowMax a) e := rfl
theorem pay13_eq : k1_pay13 v17 a b act e
    = denCand v17 (subf (pick act b a) (spread (rowMax (pick act b a)))) (rowMax (pick act b a)) e := rfl
theorem pay14_eq : k1_pay14 t = broadcast S16x1 (4#32 * t + 1#32 + 2#32) := rfl
theorem pay16_eq : k1_pay16 v67 a b v412 = pick (cmpi .slt v412 v67) b a := rfl
theorem pay17_eq : k1_pay17 v67 a b v412 = pick (cmpi .slt v412 v67) b a := rfl
theorem pay19_eq : k1_pay19 e = frame2 e := rfl
theorem pay20_eq : k1_pay20 v16 v46 v65 v67 a b v412 e
    = numCand v16 v46 v65 (subf (pick (cmpi .slt v412 v67) b a) (spread (rowMax (pick (cmpi .slt v412 v67) b a))))
        (rowMax (pick (cmpi .slt v412 v67) b a)) e := rfl
theorem pay21_eq : k1_pay21 v17 v67 a b v412
    = log (denSums v17 (exp (subf (pick (cmpi .slt v412 v67) b a) (spread (rowMax (pick (cmpi .slt v412 v67) b a)))))) := rfl
theorem pay22_eq : k1_pay22 v67 a b v412 = spread (rowMax (pick (cmpi .slt v412 v67) b a)) := rfl
theorem pay34_eq : k1_pay34 v66 a t b = pick (running t (k1_pay27 v66)) b a := rfl
theorem pay35_eq (u : FVec F S16x128 .f32) : k1_pay35 v66 a t u b d
    = pick (running t (k1_pay27 v66)) (addf (addf d b) (extractStridedSlice S16x64 ![0, 64] u slices_S16x128_o0_64_S16x64)) a := rfl
theorem pay36_eq : k1_pay36 v66 a t b = rowMax (pick (running t (k1_pay27 v66)) b a) := rfl
theorem pay37_eq (u : FVec F S16x128 .f32) : k1_pay37 v66 a t u b d
    = rowMax (pick (running t (k1_pay27 v66)) (addf (addf d b) (extractStridedSlice S16x64 ![0, 64] u slices_S16x128_o0_64_S16x64)) a) := rfl
theorem pay31_eq (f : Vec F S16x64 .f32) : k1_pay31 e f = rowMax (k1_pay29 e f) := rfl
theorem pay32_eq (f : Vec F S1x64 .f32) : k1_pay32 e f = rowMax (k1_pay30 e f) := rfl

/-- The last three frames compare the length with the frame number the other way round. -/
theorem running_eq : cmpi .sgt v67 (broadcast S16x1 t) = running t v67 := rfl

theorem pay40_eq : k1_pay40 v16 v46 v65 v67 a m e = pick (running 509#32 v67) (numCand v16 v46 v65 (subf a (spread m)) m e) a := rfl
theorem pay41_eq : k1_pay41 v17 v67 a m e = pick (running 509#32 v67) (denCand v17 (subf a (spread m)) m e) a := rfl
theorem pay42_eq : k1_pay42 v16 v46 v65 v67 a m e = rowMax (k1_pay40 v16 v46 v65 v67 a m e) := rfl
theorem pay43_eq : k1_pay43 v17 v67 a m e = rowMax (k1_pay41 v17 v67 a m e) := rfl
theorem pay44_eq : k1_pay44 v16 v46 v65 v67 a m e = spread (rowMax (k1_pay40 v16 v46 v65 v67 a m e)) := rfl
theorem pay47_eq : k1_pay47 v16 v46 v65 v67 a m d e = pick (running 510#32 v67) (numCand v16 v46 v65 (subf a d) m e) a := rfl
theorem pay48_eq : k1_pay48 v17 v67 a m e = pick (running 510#32 v67) (denCand v17 (subf a (spread m)) m e) a := rfl
theorem pay49_eq : k1_pay49 v16 v46 v65 v67 a m d e = rowMax (k1_pay47 v16 v46 v65 v67 a m d e) := rfl
theorem pay50_eq : k1_pay50 v17 v67 a m e = rowMax (k1_pay48 v17 v67 a m e) := rfl
theorem pay51_eq : k1_pay51 v16 v46 v65 v67 a m d e
    = subf (k1_pay47 v16 v46 v65 v67 a m d e) (spread (rowMax (k1_pay47 v16 v46 v65 v67 a m d e))) := rfl
theorem pay54_eq : k1_pay54 v17 v67 a m e = pick (running 511#32 v67) (denCand v17 (subf a (spread m)) m e) a := rfl
theorem pay55_eq (f : Vec F S16x64 .f32) : k1_pay55 v16 v46 v65 v67 a m d e f
    = addf (pick (running 511#32 v67) (numCand v16 v46 v65 d m e) a) f := rfl

end Payloads

end Cert.KernelIdeal.Steps

end
-- ==== Proof.Weights.lean ====
module

public import proofs.«01_k».proof.Proof.Steps
public import proofs.«01_k».proof.Proof.Lse
public import Idealize.ShloMosaic.Lib.MatmulPlain
public import Idealize.ShloMosaic.Lib.ValueIdx
public import Idealize.ShloMosaic.Lib.ValueLayout
public import Idealize.ShloMosaic.Lib.ValueLayoutCasts
public import Idealize.ShloMosaic.Lib.Pipeline.Value

@[expose] public section

set_option maxRecDepth 16384

noncomputable section

/-! The kernel's products over the extended reals: the scores in three parts against the weights in three parts come to the
    plain product, and the mask and the parity pick out each sequence's own columns. -/

namespace Cert.KernelIdeal.Weights

open Idealize.ShloMosaic Idealize.ShloMosaic.ValueIdx Cert.KernelIdeal Cert.KernelIdeal.Gen Cert.KernelIdeal.Steps

/-- A sum over 192 positions in three stretches of 64. -/
theorem sum_three (f : Fin 192 → EReal) :
    ∑ k, f k = (∑ k : Fin 64, f ⟨k.val, by omega⟩ + ∑ k : Fin 64, f ⟨64 + k.val, by omega⟩) + ∑ k : Fin 64, f ⟨128 + k.val, by omega⟩ := by
  rw [show (∑ k, f k) = ∑ k : Fin (64 + 64 + 64), f k from rfl, Fin.sum_univ_add, Fin.sum_univ_add]
  rfl

section Three
variable {α : Type} {N : ℕ}

/-- Three blocks side by side, read in the first, the second and the third. -/
theorem side_by_side (x y z : S16x64.Idx → α) (h : Shape.Concatenates [S16x64, S16x64, S16x64] S16x192 1) (b : Fin 16) (k : Fin 64) :
    concatenate S16x192 1 [⟨S16x64, x⟩, ⟨S16x64, y⟩, ⟨S16x64, z⟩] h (ix2 b ⟨k.val, by omega⟩) = x (ix2 b k)
    ∧ concatenate S16x192 1 [⟨S16x64, x⟩, ⟨S16x64, y⟩, ⟨S16x64, z⟩] h (ix2 b ⟨64 + k.val, by omega⟩) = y (ix2 b k)
    ∧ concatenate S16x192 1 [⟨S16x64, x⟩, ⟨S16x64, y⟩, ⟨S16x64, z⟩] h (ix2 b ⟨128 + k.val, by omega⟩) = z (ix2 b k) := by
  have hi (c : Fin 192) (a : Fin S16x64.rank) (ha : a.cast (rfl : S16x64.rank = S16x192.rank) ≠ 1) :
      ((ix2 b k : S16x64.Idx) a).val = ((ix2 b c : S16x192.Idx) (a.cast rfl)).val := by
    match a with
    | ⟨0, _⟩ => rfl
    | ⟨1, _⟩ => exact absurd rfl ha
  exact ⟨concatenate_apply_piece 1 [⟨S16x64, x⟩, ⟨S16x64, y⟩, ⟨S16x64, z⟩] h _ 0 (by show 0 < 3; omega) S16x64 x rfl rfl 0 rfl (ix2 b k) (hi _) (Nat.zero_add _),
    concatenate_apply_piece 1 [⟨S16x64, x⟩, ⟨S16x64, y⟩, ⟨S16x64, z⟩] h _ 1 (by show 1 < 3; omega) S16x64 y rfl rfl 64 rfl (ix2 b k) (hi _) rfl,
    concatenate_apply_piece 1 [⟨S16x64, x⟩, ⟨S16x64, y⟩, ⟨S16x64, z⟩] h _ 2 (by show 2 < 3; omega) S16x64 z rfl rfl 128 rfl (ix2 b k) (hi _) rfl⟩

/-- Three blocks one below another, read in the first, the second and the third. -/
theorem stacked (x y z : (⟨2, ![64, N]⟩ : Shape).Idx → α)
    (h : Shape.Concatenates [⟨2, ![64, N]⟩, ⟨2, ![64, N]⟩, ⟨2, ![64, N]⟩] (⟨2, ![192, N]⟩ : Shape) 0) (k : Fin 64) (c : Fin N) :
    concatenate ⟨2, ![192, N]⟩ 0 [⟨⟨2, ![64, N]⟩, x⟩, ⟨⟨2, ![64, N]⟩, y⟩, ⟨⟨2, ![64, N]⟩, z⟩] h (ix2 ⟨k.val, by omega⟩ c) = x (ix2 k c)
    ∧ concatenate ⟨2, ![192, N]⟩ 0 [⟨⟨2, ![64, N]⟩, x⟩, ⟨⟨2, ![64, N]⟩, y⟩, ⟨⟨2, ![64, N]⟩, z⟩] h (ix2 ⟨64 + k.val, by omega⟩ c) = y (ix2 k c)
    ∧ concatenate ⟨2, ![192, N]⟩ 0 [⟨⟨2, ![64, N]⟩, x⟩, ⟨⟨2, ![64, N]⟩, y⟩, ⟨⟨2, ![64, N]⟩, z⟩] h (ix2 ⟨128 + k.val, by omega⟩ c) = z (ix2 k c) := by
  have hi (r : Fin 192) (a : Fin 2) (ha : a ≠ 0) :
      ((ix2 k c : (⟨2, ![64, N]⟩ : Shape).Idx) a).val = ((ix2 r c : (⟨2, ![192, N]⟩ : Shape).Idx) a).val := by
    match a with
    | ⟨0, _⟩ => exact absurd rfl ha
    | ⟨1, _⟩ => rfl
  exact ⟨concatenate_apply_piece 0 [⟨⟨2, ![64, N]⟩, x⟩, ⟨⟨2, ![64, N]⟩, y⟩, ⟨⟨2, ![64, N]⟩, z⟩] h _ 0 (by show 0 < 3; omega) _ x rfl rfl 0 rfl (ix2 k c) (hi _) (Nat.zero_add _),
    concatenate_apply_piece 0 [⟨⟨2, ![64, N]⟩, x⟩, ⟨⟨2, ![64, N]⟩, y⟩, ⟨⟨2, ![64, N]⟩, z⟩] h _ 1 (by show 1 < 3; omega) _ y rfl rfl 64 rfl (ix2 k c) (hi _) rfl,
    concatenate_apply_piece 0 [⟨⟨2, ![64, N]⟩, x⟩, ⟨⟨2, ![64, N]⟩, y⟩, ⟨⟨2, ![64, N]⟩, z⟩] h _ 2 (by show 2 < 3; omega) _ z rfl rfl 128 rfl (ix2 k c) (hi _) rfl⟩

end Three

section Split
variable (p : FVec Ideal S16x64 .f32) (b : Fin 16) (k : Fin 64)

/-- The first part is the block itself. -/
theorem split3_head : split3 p (ix2 b ⟨k.val, by omega⟩) = p (ix2 b k) := (side_by_side _ _ _ _ b k).1

/-- The second part is what the block differs from itself by. -/
theorem split3_rest : split3 p (ix2 b ⟨64 + k.val, by omega⟩) = p (ix2 b k) - p (ix2 b k) := (side_by_side _ _ _ _ b k).2.1

/-- The third part is the block again. -/
theorem split3_again : split3 p (ix2 b ⟨128 + k.val, by omega⟩) = p (ix2 b k) := (side_by_side _ _ _ _ b k).2.2

end Split

/-- The weights in three parts: the weights twice, then nothing. -/
def Thirds {N : ℕ} (v : FVec Ideal ⟨2, ![192, N]⟩ .bf16) (c : Fin N) (W : Fin 64 → EReal) : Prop :=
  ∀ k : Fin 64, v (ix2 ⟨k.val, by omega⟩ c) = W k ∧ v (ix2 ⟨64 + k.val, by omega⟩ c) = W k ∧ v (ix2 ⟨128 + k.val, by omega⟩ c) = 0

/-- The product of the three parts is the plain product, when the scores are real. -/
theorem product {N : ℕ} (p : FVec Ideal S16x64 .f32) (v : FVec Ideal ⟨2, ![192, N]⟩ .bf16) (W : Fin 64 → EReal) (b : Fin 16) (c : Fin N)
    (hp : ∀ k, p (ix2 b k) - p (ix2 b k) = 0) (hv : Thirds v c W) :
    FloatOps.matmul (DotDims.plain 16 192 N) none (split3 p) v (constant ⟨2, ![16, N]⟩ .f32 0x00000000#32) (ix2 b c)
      = ∑ k, p (ix2 b k) * W k := by
  rw [Ideal.matmul_plain_apply, sum_three]
  rw [Finset.sum_congr rfl fun k _ => by rw [split3_head, (hv k).1],
    Finset.sum_eq_zero (f := fun k : Fin 64 => split3 p (ix2 b ⟨64 + k.val, by omega⟩) * v (ix2 ⟨64 + k.val, by omega⟩ c))
      (fun k _ => by rw [split3_rest, hp k, zero_mul]),
    Finset.sum_eq_zero (f := fun k : Fin 64 => split3 p (ix2 b ⟨128 + k.val, by omega⟩) * v (ix2 ⟨128 + k.val, by omega⟩ c))
      (fun k _ => by rw [(hv k).2.2, mul_zero]), add_zero, add_zero]
  show Ideal.ofBits .f32 0x00000000#32 + _ = _
  rw [Ideal.ofBits_zero_f32, zero_add]

/-- The mask keeps, for each sequence, its own pair of sequences. -/
theorem mask_apply (b : Fin 16) (k : Fin 8) (l : Fin 128) :
    (k1_pay25 (F := Ideal)) (ix3 b k l) = if k.val = b.val / 2 then 1 else 0 := by
  have i1 : iota Kind.tc S16x8x128 32 [1] iota_S16x8x128_d1_w32 (ix3 b k l) = BitVec.ofNat 32 k.val := iota_single_apply ..
  have i0 : iota Kind.tc S16x8x128 32 [0] iota_S16x8x128_d0_w32 (ix3 b k l) = BitVec.ofNat 32 b.val := iota_single_apply ..
  have h : ∀ (b : Fin 16) (k : Fin 8), BitVec.setWidth 32 (IntOp.cmpi .eq (BitVec.ofNat 32 k.val)
        (Scalar.select (IntOp.andi (IntOp.cmpi .ne (IntOp.subi
              (BitVec.setWidth 32 (IntOp.cmpi .sgt (BitVec.ofNat 32 b.val) 0#32)) (BitVec.setWidth 32 (IntOp.cmpi .slt (BitVec.ofNat 32 b.val) 0#32)))
            (Scalar.subi (Scalar.extui (Scalar.cmpi .sgt 2#32 0#32)) (Scalar.extui (Scalar.cmpi .slt 2#32 0#32))))
          (IntOp.cmpi .ne (IntOp.remsi .vector (BitVec.ofNat 32 b.val) 2#32) 0#32))
          (IntOp.subi (IntOp.divsi .vector (BitVec.ofNat 32 b.val) 2#32) 1#32) (IntOp.divsi .vector (BitVec.ofNat 32 b.val) 2#32)))
        = if k.val = b.val / 2 then 1#32 else 0#32 := by decide +kernel
  have e : (k1_pay25 (F := Ideal)) (ix3 b k l) = (((if k.val = b.val / 2 then 1#32 else 0#32 : BitVec 32).toInt : ℝ) : EReal) := by
    rw [← h b k, ← i0, ← i1]
    rfl
  rw [e]
  split <;> simp

/-- The parity bit of a sequence. -/
theorem parity_apply (b : Fin 16) (l : Fin 128) : k1_pay26 (ix2 b l) = if b.val % 2 = 1 then 1#1 else 0#1 := by
  have h : ∀ b : Fin 16, k1_pay26 (ix2 b 0) = if b.val % 2 = 1 then 1#1 else 0#1 := by decide +kernel
  rw [← h b]
  have i (l : Fin 128) : iota Kind.tc S16x128 32 [0] iota_S16x128_d0_w32 (ix2 b l) = BitVec.ofNat 32 b.val := iota_single_apply ..
  unfold k1_pay26
  simp only [cmpi, select, andi, xori, addi, remsi, broadcast, i]
  rfl

/-- An exponential below `⊤` differs from itself by nothing. -/
theorem exp_sub_self {x : EReal} (hx : x ≠ ⊤) : Ideal.exp x - Ideal.exp x = 0 := by
  rw [Lse.exp_eq hx, ← EReal.coe_sub, sub_self]; rfl

/-- The numerator's weights: column `64 b + j` holds the exponentials of sequence `b`'s scores into state `j`. -/
theorem num_weights (x : Vec Ideal S64x16x64 .f32) (hx : ∀ i, x i ≠ ⊤) (b : Fin 16) (j : Fin 64) :
    Thirds (N := 1024) (k1_pay23 x) ⟨64 * b.val + j.val, by omega⟩ fun k => Ideal.exp (x (ix3 k b j)) := by
  intro k
  let c : Fin 1024 := ⟨64 * b.val + j.val, by omega⟩
  let w : FVec Ideal S64x1024 .f32 := shapeCast S64x1024 (exp (shapeCast S64x16x64 x shapeCasts_S64x16x64_S64x16x64)) shapeCasts_S64x16x64_S64x1024
  have hw : w (ix2 k c) = Ideal.exp (x (ix3 k b j)) := by
    refine (shapeCast_apply _ _ _ (ix3 k b j) ?_).trans ?_
    · rw [Shape.rowMajor_val_three, Shape.rowMajor_val_two]
      show (k.val * 16 + b.val) * 64 + j.val = k.val * 1024 + (64 * b.val + j.val)
      omega
    · show Ideal.exp (shapeCast S64x16x64 x shapeCasts_S64x16x64_S64x16x64 (ix3 k b j)) = _
      rw [shapeCast_apply x _ _ (ix3 k b j) rfl]
  obtain ⟨h0, h1, h2⟩ := stacked (N := 1024) (truncf .bf16 w bitsLt_bf16_f32) (truncf .bf16 w bitsLt_bf16_f32)
    (truncf .bf16 (subf w (extf .f32 (truncf .bf16 w bitsLt_bf16_f32) bitsLt_bf16_f32)) bitsLt_bf16_f32)
    concatenates_S64x1024_S64x1024_S64x1024_S192x1024_d0 k c
  refine ⟨h0.trans hw, h1.trans hw, h2.trans ?_⟩
  show w (ix2 k c) - w (ix2 k c) = 0
  rw [hw]; exact exp_sub_self (hx _)

/-- The denominator's weights: column `j` holds the exponentials of the shared scores into state `j`. -/
theorem den_weights (x : Vec Ideal S64x1x64 .f32) (hx : ∀ i, x i ≠ ⊤) (j : Fin 64) :
    Thirds (N := 64) (k1_pay24 x) j fun k => Ideal.exp (x (ix3 k 0 j)) := by
  intro k
  let w : FVec Ideal S64x64 .f32 := shapeCast S64x64 (exp (shapeCast S64x1x64 x shapeCasts_S64x1x64_S64x1x64)) shapeCasts_S64x1x64_S64x64
  have hw : w (ix2 k j) = Ideal.exp (x (ix3 k 0 j)) := by
    refine (shapeCast_apply _ _ _ (ix3 k 0 j) ?_).trans ?_
    · rw [Shape.rowMajor_val_three, Shape.rowMajor_val_two]
      show (k.val * 1 + 0) * 64 + j.val = k.val * 64 + j.val
      omega
    · show Ideal.exp (shapeCast S64x1x64 x shapeCasts_S64x1x64_S64x1x64 (ix3 k 0 j)) = _
      rw [shapeCast_apply x _ _ (ix3 k 0 j) rfl]
  obtain ⟨h0, h1, h2⟩ := stacked (N := 64) (truncf .bf16 w bitsLt_bf16_f32) (truncf .bf16 w bitsLt_bf16_f32)
    (truncf .bf16 (subf w (extf .f32 (truncf .bf16 w bitsLt_bf16_f32) bitsLt_bf16_f32)) bitsLt_bf16_f32)
    concatenates_S64x64_S64x64_S64x64_S192x64_d0 k j
  refine ⟨h0.trans hw, h1.trans hw, h2.trans ?_⟩
  show w (ix2 k j) - w (ix2 k j) = 0
  rw [hw]; exact exp_sub_self (hx _)

/-- The masked sum over pairs is the product's column in the sequence's own pair. -/
theorem pairSums_apply (v : FVec Ideal S192x1024 .bf16) (p : FVec Ideal S16x64 .f32) (b : Fin 16) (l : Fin 128) :
    pairSums v k1_pay25 p (ix2 b l)
      = FloatOps.matmul (DotDims.plain 16 192 1024) none (split3 p) v (constant S16x1024 .f32 0x00000000#32)
          (ix2 b ⟨128 * (b.val / 2) + l.val, by omega⟩) := by
  unfold pairSums
  refine (Ideal.multiReduction_add_single _ _ reduces_S16x8x128_S16x128 _ _ _).trans ?_
  have hl (k : Fin 8) : reduces_S16x8x128_S16x128.lift (ix2 b l) k = ix3 b k l := by
    funext a; match a with
    | ⟨0, _⟩ => rfl
    | ⟨1, _⟩ => rfl
    | ⟨2, _⟩ => rfl
  let q : Fin 8 := ⟨b.val / 2, by omega⟩
  refine (Finset.sum_eq_single (M := EReal) (ι := Fin 8) q (fun k _ hk => ?_) (fun h => absurd (Finset.mem_univ _) h)).trans ?_
  · rw [hl k, mulf_apply, mask_apply, if_neg (fun h => hk (Fin.ext h)), mul_zero]
  · rw [hl q, mulf_apply, mask_apply, if_pos rfl, mul_one]
    refine shapeCast_apply _ _ _ _ ?_
    rw [Shape.rowMajor_val_three, Shape.rowMajor_val_two]
    show b.val * 1024 + (128 * (b.val / 2) + l.val) = (b.val * 8 + b.val / 2) * 128 + l.val
    omega

/-- The numerator's product at a sequence and a state is the product's column `64 b + j`. -/
theorem numSums_apply (v : FVec Ideal S192x1024 .bf16) (p : FVec Ideal S16x64 .f32) (b : Fin 16) (j : Fin 64) :
    numSums v k1_pay25 k1_pay26 p (ix2 b j)
      = FloatOps.matmul (DotDims.plain 16 192 1024) none (split3 p) v (constant S16x1024 .f32 0x00000000#32)
          (ix2 b ⟨64 * b.val + j.val, by omega⟩) := by
  unfold numSums
  rw [extractStridedSlice_apply _ _ _ _ (ix2 b (⟨j.val, by omega⟩ : Fin 128)) (fun a => by
    match a with
    | ⟨0, _⟩ => exact (Nat.zero_add _).symm
    | ⟨1, _⟩ => exact (Nat.zero_add _).symm)]
  rw [select_apply, parity_apply]
  by_cases hb : b.val % 2 = 1
  · rw [if_pos hb, select_one]
    rw [concatenate_pair_apply_left (t := S16x128) (s₁ := S16x64) 1 _ _ _ _ rfl (ix2 b j) (fun a => by
      match a with
      | ⟨0, _⟩ => rfl
      | ⟨1, _⟩ => rfl)]
    rw [extractStridedSlice_apply _ _ _ _ (ix2 b (⟨64 + j.val, by omega⟩ : Fin 128)) (fun a => by
      match a with
      | ⟨0, _⟩ => exact (Nat.zero_add _).symm
      | ⟨1, _⟩ => rfl)]
    rw [pairSums_apply]
    congr 2
    apply Fin.ext
    show 128 * (b.val / 2) + (64 + j.val) = 64 * b.val + j.val
    omega
  · rw [if_neg hb, select_zero, pairSums_apply]
    congr 2
    apply Fin.ext
    show 128 * (b.val / 2) + j.val = 64 * b.val + j.val
    omega

end Cert.KernelIdeal.Weights
-- ==== Proof.StepValue.lean ====
module

public import proofs.«01_k».proof.Proof.Weights

@[expose] public section

set_option maxRecDepth 16384

noncomputable section

/-! One frame of each graph, and the kernel's last lines, over the extended reals: a new score is the logarithm of a sum of
    exponentials plus the frame's emission. -/

namespace Cert.KernelIdeal.StepValue

open Idealize.ShloMosaic Idealize.ShloMosaic.ValueIdx Cert.KernelIdeal Cert.KernelIdeal.Gen Cert.KernelIdeal.Steps
open Cert.KernelIdeal.Weights

/-- A column made of a row of 16 values. -/
theorem column_apply (x : FVec Ideal S16 .f32) (b : Fin 16) (u : Fin 1) :
    shapeCast S16x1 x shapeCasts_S16_S16x1 (ix2 b u) = x (ix1 b) := shapeCast_a_a1_apply x _ b u

/-- The coordinates a reduction over the states reads. -/
theorem lift_states (b : Fin 16) (k : Fin 64) : reduces_S16x64_S16.lift (ix1 b) k = ix2 b k := by
  funext a; match a with
  | ⟨0, _⟩ => rfl
  | ⟨1, _⟩ => rfl

/-- The maximum over the states of one sequence. -/
theorem max_apply (a : FVec Ideal S16x64 .f32) (h1 h2) (b : Fin 16) :
    multiReduction .maximumf [1] S16 a 0xFF800000#32 reduces_S16x64_S16 h1 h2 (ix1 b) = Lse.top fun i => a (ix2 b i) := by
  refine (Ideal.multiReduction_maximumf_single _ _ reduces_S16x64_S16 _ _ _).trans ?_
  have hb : (FloatOps.ofBits .f32 0xFF800000#32 : Ideal .f32) = (⊥ : EReal) := Lse.ofBits_neg_inf
  rw [hb]
  unfold Lse.top
  exact congrArg (Finset.fold max ⊥ · Finset.univ) (funext fun k => congrArg a (lift_states b k))

/-- The sum over the states of one sequence. -/
theorem add_apply (a : FVec Ideal S16x64 .f32) (h1 h2) (b : Fin 16) :
    multiReduction .add [1] S16 a 0x00000000#32 reduces_S16x64_S16 h1 h2 (ix1 b) = ∑ i : Fin 64, a (ix2 b i) := by
  refine (Ideal.multiReduction_add_single _ _ reduces_S16x64_S16 _ _ _).trans ?_
  exact Finset.sum_congr rfl fun k _ => congrArg a (lift_states b k)

/-- The row maximum is the largest score of the sequence. -/
theorem rowMax_apply (a : FVec Ideal S16x64 .f32) (b : Fin 16) (u : Fin 1) : rowMax a (ix2 b u) = Lse.top fun i => a (ix2 b i) :=
  (column_apply _ b u).trans (max_apply a _ _ b)

/-- A column spread over the states. -/
theorem spread_apply (m : FVec Ideal S16x1 .f32) (b : Fin 16) (j : Fin 64) : spread m (ix2 b j) = m (ix2 b 0) :=
  broadcastTo_apply m _ _ (ix2 b 0) fun a => by
    match a with
    | ⟨0, _⟩ => rfl
    | ⟨1, _⟩ => rfl

/-- Picking by a column of bits. -/
theorem pick_apply (act : IVec S16x1 1) (x y : FVec Ideal S16x64 .f32) (b : Fin 16) (j : Fin 64) :
    pick act x y (ix2 b j) = if act (ix2 b 0) = 1#1 then x (ix2 b j) else y (ix2 b j) := by
  have h : broadcastTo S16x64 (shapeCast S16x1 act shapeCasts_S16x1_S16x1) broadcasts_S16x1_S16x64 (ix2 b j) = act (ix2 b 0) := by
    rw [broadcastTo_apply _ _ _ (ix2 b 0) fun a => by
      match a with
      | ⟨0, _⟩ => rfl
      | ⟨1, _⟩ => rfl]
    exact shapeCast_apply _ _ _ _ rfl
  unfold pick
  rw [select_apply, h]
  split
  · next h1 => rw [h1, select_one]
  · next h1 => rw [eq_zero_of_ne_one h1, select_zero]

/-- One frame's emissions of the numerator's states. -/
theorem frame_num (e : Vec Ideal S1x16x128 .f32) (b : Fin 16) (j : Fin 64) :
    extractStridedSlice S16x64 ![0, 0] (frame2 e) slices_S16x128_o0_0_S16x64 (ix2 b j) = e (ix3 0 b (⟨j.val, by omega⟩ : Fin 128)) := by
  rw [extractStridedSlice_apply _ _ _ _ (ix2 b (⟨j.val, by omega⟩ : Fin 128)) fun a => by
    match a with
    | ⟨0, _⟩ => exact (Nat.zero_add _).symm
    | ⟨1, _⟩ => exact (Nat.zero_add _).symm]
  unfold frame2
  exact shapeCast_1ab_ab_apply e _ b _

/-- One frame's emissions of the denominator's states. -/
theorem frame_den (e : Vec Ideal S1x16x128 .f32) (b : Fin 16) (j : Fin 64) :
    extractStridedSlice S16x64 ![0, 64] (frame2 e) slices_S16x128_o0_64_S16x64 (ix2 b j) = e (ix3 0 b (⟨64 + j.val, by omega⟩ : Fin 128)) := by
  rw [extractStridedSlice_apply _ _ _ _ (ix2 b (⟨64 + j.val, by omega⟩ : Fin 128)) fun a => by
    match a with
    | ⟨0, _⟩ => exact (Nat.zero_add _).symm
    | ⟨1, _⟩ => rfl]
  unfold frame2
  exact shapeCast_1ab_ab_apply e _ b _

/-- A score less the largest is below `⊤`. -/
theorem less_top_ne_top {n : ℕ} (x : Fin n → EReal) (hx : ∀ i, x i ≠ ⊤) (i : Fin n) : x i - Lse.top x ≠ ⊤ := by
  have hT := Lse.top_ne_top hx
  have hle := Lse.le_top x i
  have hxi := hx i
  generalize Lse.top x = M at hT hle ⊢
  induction M with
  | bot => rw [le_bot_iff.mp hle, sub_eq_add_neg, EReal.bot_add]; exact bot_ne_top
  | top => exact absurd rfl hT
  | coe s => exact Lse.sub_ne_top hxi s

section Step
variable (a : FVec Ideal S16x64 .f32) (e : Vec Ideal S1x16x128 .f32) (act : IVec S16x1 1) (b : Fin 16) (j : Fin 64)

/-- The exponentials the products read. -/
theorem exps_apply (k : Fin 64) : exp (subf a (spread (rowMax a))) (ix2 b k) = Ideal.exp (a (ix2 b k) - Lse.top fun i => a (ix2 b i)) := by
  show Ideal.exp (a (ix2 b k) - spread (rowMax a) (ix2 b k)) = _
  rw [spread_apply, rowMax_apply]

/-- They are real. -/
theorem exps_real (ha : ∀ i, a (ix2 b i) ≠ ⊤) (k : Fin 64) :
    exp (subf a (spread (rowMax a))) (ix2 b k) - exp (subf a (spread (rowMax a))) (ix2 b k) = 0 := by
  rw [exps_apply]
  exact exp_sub_self (less_top_ne_top (fun i => a (ix2 b i)) ha k)

/-- One frame of the numerator at one sequence and state. -/
theorem numStep_apply (x : Vec Ideal S64x16x64 .f32) (hx : ∀ i, x i ≠ ⊤) (ha : ∀ i, a (ix2 b i) ≠ ⊤) :
    numStep (k1_pay23 x) k1_pay25 k1_pay26 act a e (ix2 b j)
      = if act (ix2 b 0) = 1#1 then Lse.lse (fun i => a (ix2 b i) + x (ix3 i b j)) + e (ix3 0 b (⟨j.val, by omega⟩ : Fin 128))
        else a (ix2 b j) := by
  unfold numStep
  rw [pick_apply]
  congr 1
  unfold numCand
  rw [addf_apply, frame_num, addf_apply, spread_apply, rowMax_apply]
  congr 1
  show _ + Ideal.log (numSums (k1_pay23 x) k1_pay25 k1_pay26 (exp (subf a (spread (rowMax a)))) (ix2 b j)) = _
  rw [numSums_apply, product (N := 1024) _ _ _ b _ (exps_real a b ha) (num_weights x hx b j),
    Finset.sum_congr rfl fun k _ => by rw [exps_apply]]
  exact Lse.weighted (fun i => a (ix2 b i)) (fun i => x (ix3 i b j)) ha fun i => hx _

/-- One frame of the denominator at one sequence and state. -/
theorem denStep_apply (x : Vec Ideal S64x1x64 .f32) (hx : ∀ i, x i ≠ ⊤) (ha : ∀ i, a (ix2 b i) ≠ ⊤) :
    denStep (k1_pay24 x) act a e (ix2 b j)
      = if act (ix2 b 0) = 1#1 then Lse.lse (fun i => a (ix2 b i) + x (ix3 i 0 j)) + e (ix3 0 b (⟨64 + j.val, by omega⟩ : Fin 128))
        else a (ix2 b j) := by
  unfold denStep
  rw [pick_apply]
  congr 1
  unfold denCand
  rw [addf_apply, frame_den, addf_apply, spread_apply, rowMax_apply]
  congr 1
  show _ + Ideal.log (denSums (k1_pay24 x) (exp (subf a (spread (rowMax a)))) (ix2 b j)) = _
  have h : denSums (k1_pay24 x) (exp (subf a (spread (rowMax a)))) (ix2 b j) = _ :=
    product (N := 64) _ _ _ b j (exps_real a b ha) (den_weights x hx j)
  rw [h, Finset.sum_congr rfl fun k _ => by rw [exps_apply]]
  exact Lse.weighted (fun i => a (ix2 b i)) (fun i => x (ix3 i 0 j)) ha fun i => hx _

end Step

/-- The first scores of the numerator. -/
theorem num_first (e : Vec Ideal S1x16x128 .f32) (f : Vec Ideal S16x64 .f32) (b : Fin 16) (j : Fin 64) :
    k1_pay29 e f (ix2 b j) = f (ix2 b j) + e (ix3 0 b (⟨j.val, by omega⟩ : Fin 128)) :=
  congrArg (f (ix2 b j) + ·) (frame_num e b j)

/-- The first scores of the denominator. -/
theorem den_first (e : Vec Ideal S1x16x128 .f32) (f : Vec Ideal S1x64 .f32) (b : Fin 16) (j : Fin 64) :
    k1_pay30 e f (ix2 b j) = f (ix2 0 j) + e (ix3 0 b (⟨64 + j.val, by omega⟩ : Fin 128)) := by
  refine congrArg₂ (· + ·) ?_ (frame_den e b j)
  refine (broadcastTo_1b_ab_apply _ _ b j).trans ?_
  exact (shapeCast_apply _ _ _ (ix2 0 j) rfl).trans (shapeCast_apply _ _ _ (ix2 0 j) rfl)

/-- The logarithm of the sum of exponentials, as the kernel's last lines compute it. -/
def rowLse (a : FVec Ideal S16x64 .f32) : FVec Ideal S16x1 .f32 :=
  addf (rowMax a) (log (shapeCast S16x1 (multiReduction .add [1] S16 (exp (subf a (spread (rowMax a)))) 0x00000000#32 reduces_S16x64_S16 (.inl rfl) rfl)
    shapeCasts_S16_S16x1))

/-- It is the logarithm of the sum of exponentials. -/
theorem rowLse_apply (a : FVec Ideal S16x64 .f32) (b : Fin 16) (ha : ∀ i, a (ix2 b i) ≠ ⊤) :
    rowLse a (ix2 b 0) = Lse.lse fun i => a (ix2 b i) := by
  unfold rowLse
  rw [addf_apply, rowMax_apply]
  refine Eq.trans (congrArg (fun z => _ + Ideal.log z) ?_) (Lse.shifted (fun i => a (ix2 b i)) ha)
  exact (column_apply _ b 0).trans ((add_apply _ _ _ b).trans (Finset.sum_congr rfl fun k _ => exps_apply a b k))

/-- The kernel's result: the sequences' differences added up and negated. -/
theorem loss_apply (d n : FVec Ideal S16x64 .f32) (f : FVec Ideal S1x64 .f32) (hn : ∀ b i, n (ix2 b i) ≠ ⊤)
    (hd : ∀ b i, d (ix2 b i) + f (ix2 0 i) ≠ ⊤) (i : S1x1.Idx) :
    k1_pay1 d n f i
      = 0 - ∑ b : Fin 16, ((Lse.lse fun j => n (ix2 b j)) - Lse.lse fun j => d (ix2 b j) + f (ix2 0 j)) := by
  have e : k1_pay1 d n f = subf (broadcast S1x1 (Scalar.ofBits .f32 0x00000000#32)) (shapeCast S1x1
      (multiReduction .add [0] S1 (subf (rowLse n) (rowLse (addf d (broadcastTo S16x64 f broadcasts_S1x64_S16x64)))) 0x00000000#32
        reduces_S16x1_S1 (.inl rfl) rfl) shapeCasts_S1_S1x1) := rfl
  have hf (b : Fin 16) (k : Fin 64) : addf d (broadcastTo S16x64 f broadcasts_S1x64_S16x64) (ix2 b k) = d (ix2 b k) + f (ix2 0 k) := by
    rw [addf_apply]; exact congrArg (d (ix2 b k) + ·) (broadcastTo_1b_ab_apply f _ b k)
  obtain ⟨u, v, rfl⟩ : ∃ u v : Fin 1, i = ix2 u v := ⟨i 0, i 1, eq_ix2 i⟩
  rw [e, subf_apply]
  refine congrArg₂ (· - ·) Ideal.ofBits_zero_f32 ?_
  refine (shapeCast_apply _ _ _ (ix1 0) (by
    rw [Shape.rowMajor_val_two, Shape.rowMajor_val_one]
    show 0 = u.val * 1 + v.val
    omega)).trans ?_
  refine (Ideal.multiReduction_add_single _ _ reduces_S16x1_S1 _ _ _).trans ?_
  refine Finset.sum_congr rfl fun (b : Fin 16) _ => ?_
  have hl : reduces_S16x1_S1.lift (ix1 0) b = ix2 b (0 : Fin 1) := by
    funext a; match a with
    | ⟨0, _⟩ => rfl
    | ⟨1, _⟩ => rfl
  rw [hl, subf_apply, rowLse_apply n b (hn b), rowLse_apply _ b (fun i => by rw [hf]; exact hd b i)]
  congr 2
  exact funext fun k => hf b k

end Cert.KernelIdeal.StepValue
-- ==== Proof.Recur.lean ====
module

public import proofs.«01_k».proof.Proof.Steps
public import Idealize.ShloMosaic.Lib.ValueIdxCore
public import Idealize.ShloMosaic.Lib.Pipeline.ValueKit.Tiles
public import Idealize.ShloMosaic.Lib.WordArith.Masks

@[expose] public section

set_option maxRecDepth 16384

noncomputable section

/-! The forward kernel's run in closed form: what its one block holds after the body, as the recursions of `Steps` over the
    512 frames. -/

namespace Cert.KernelIdeal.Steps

open Idealize.ShloMosaic Idealize.ShloMosaic.TcCoe Idealize.ShloMosaic.Tactic Idealize.SL Idealize.SL.Sem Cert.KernelIdeal Cert.KernelIdeal.Gen
open Idealize.ShloMosaic.ValueIdx

variable {F : FTy → Type} [FloatOps F]

/-- Frame `t` of the emissions, as one loaded block. -/
def rowOf (x : Vec F S512x16x128 .f32) (t : ℕ) : Vec F S1x16x128 .f32 := fun i => x (ix3 (Fin.ofNat 512 t) (i 1) (i 2))

/-- A load of one frame reads that frame. -/
theorem ld_row (x : Vec F S512x16x128 .f32) (off : Fin 3 → ℕ) (inb : ∀ a, off a + S1x16x128.size a ≤ S512x16x128.size a) (t : ℕ)
    (h : off = ![t, 0, 0]) : View.ld x (Rect.unit (s := S512x16x128) off S1x16x128.size inb) = rowOf x t := by
  subst h
  have ht : t < 512 := by
    have h0 : t + 1 ≤ 512 := inb 0
    omega
  funext i
  refine View.ld_unit_apply_of _ _ _ _ _ _ fun a => ?_
  match a with
  | ⟨0, _⟩ =>
    have hi : (i 0).val < 1 := (i 0).isLt
    show t % 512 = t + (i 0).val
    rw [Nat.mod_eq_of_lt ht]; omega
  | ⟨1, _⟩ => show (i 1).val = 0 + (i 1).val; omega
  | ⟨2, _⟩ => show (i 2).val = 0 + (i 2).val; omega

/-- The numerator's scores after `n` frames from `a`. -/
def numSeq (v16 : FVec F S192x1024 .bf16) (v46 : FVec F S16x8x128 .f32) (v65 : IVec S16x128 1) (v67 : IVec S16x1 32)
    (x : Vec F S512x16x128 .f32) (a : FVec F S16x64 .f32) : ℕ → FVec F S16x64 .f32
  | 0 => a
  | n + 1 => numStep v16 v46 v65 (running (BitVec.ofNat 32 (n + 1)) v67) (numSeq v16 v46 v65 v67 x a n) (rowOf x (n + 1))

/-- The denominator's scores after `n` frames from `a`. -/
def denSeq (v17 : FVec F S192x64 .bf16) (v67 : IVec S16x1 32) (x : Vec F S512x16x128 .f32) (a : FVec F S16x64 .f32) :
    ℕ → FVec F S16x64 .f32
  | 0 => a
  | n + 1 => denStep v17 (running (BitVec.ofNat 32 (n + 1)) v67) (denSeq v17 v67 x a n) (rowOf x (n + 1))

/-- What the loop carries: both graphs' scores and their row maxima. -/
def carry (a d : FVec F S16x64 .f32) : FVec F S16x64 .f32 × FVec F S16x64 .f32 × FVec F S16x1 .f32 × FVec F S16x1 .f32 :=
  (a, d, rowMax a, rowMax d)

/-- The frame number of a trip's `r`-th step. -/
theorem frameWord (k r : ℕ) (hk : k < 127) (hr : r < 4) :
    4#32 * Scf.iv 0#32 1#32 k + 1#32 + BitVec.ofNat 32 r = BitVec.ofNat 32 (4 * k + r + 1) := by
  have h := WordArith.toNat_iv_zero_one k (by omega)
  apply BitVec.eq_of_toNat_eq
  simp only [BitVec.toNat_add, BitVec.toNat_mul, h, BitVec.toNat_ofNat]
  omega

theorem trips_le : k1_t1_loop.trips = 127 := by decide

section Trip
variable (𝒱 : Variants) (bd : Option 𝒱.V) (c : Dev nD) (arg0 : Memref sig .tc .vmem S512x16x128 .f32) (harg0 : arg0.IsWhole) (arg1 : Memref sig .tc .vmem S64x16x64 .f32) (harg1 : arg1.IsWhole) (arg2 : Memref sig .tc .vmem S64x1x64 .f32) (harg2 : arg2.IsWhole) (arg3 : Memref sig .tc .vmem S16x64 .f32) (harg3 : arg3.IsWhole) (arg4 : Memref sig .tc .vmem S1x64 .f32) (harg4 : arg4.IsWhole) (arg5 : Memref sig .tc .vmem S16x64 .f32) (harg5 : arg5.IsWhole) (arg6 : Memref sig .tc .vmem S1x64 .f32) (harg6 : arg6.IsWhole) (arg7 : Memref sig .tc .vmem S16x1 .i32) (harg7 : arg7.IsWhole) (arg8 : Memref sig .tc .vmem S1x1 .f32) (harg8 : arg8.IsWhole)
  (v16 : FVec F S192x1024 .bf16) (v17 : FVec F S192x64 .bf16) (v46 : FVec F S16x8x128 .f32) (v66 : Vec F S16x1 .i32)
  (X : BufTy.Contents (Elt F) arg0.view.ty)

/-- One trip runs four frames of both graphs. -/
theorem trip_steps (k : Fin k1_t1_loop.trips) (a d : FVec F S16x64 .f32) (e0 e1 e2 e3 : Vec F S1x16x128 .f32)
    (h0 : View.readAt (Elt F) arg0.view (Rect.unit (s := S512x16x128) (k1_off1 k 0#32) S1x16x128.size (k1_off1_inb k 0)).toLoadRect X = e0)
    (h1 : View.readAt (Elt F) arg0.view (Rect.unit (s := S512x16x128) (k1_off1 k 1#32) S1x16x128.size (k1_off1_inb k 1)).toLoadRect X = e1)
    (h2 : View.readAt (Elt F) arg0.view (Rect.unit (s := S512x16x128) (k1_off1 k 2#32) S1x16x128.size (k1_off1_inb k 2)).toLoadRect X = e2)
    (h3 : View.readAt (Elt F) arg0.view (Rect.unit (s := S512x16x128) (k1_off1 k 3#32) S1x16x128.size (k1_off1_inb k 3)).toLoadRect X = e3) :
    tripR_k1_t1 𝒱 c bd arg0 harg0 arg1 harg1 arg2 harg2 arg3 harg3 arg4 harg4 arg5 harg5 arg6 harg6 arg7 harg7 arg8 harg8 v16 v17 v46 v66 X k (carry a d)
      = carry
          (numStep v16 v46 k1_pay26 (running (4#32 * Scf.iv 0#32 1#32 k + 1#32 + 3#32) (k1_pay27 v66))
            (numStep v16 v46 k1_pay26 (running (4#32 * Scf.iv 0#32 1#32 k + 1#32 + 2#32) (k1_pay27 v66))
              (numStep v16 v46 k1_pay26 (running (4#32 * Scf.iv 0#32 1#32 k + 1#32 + 1#32) (k1_pay27 v66))
                (numStep v16 v46 k1_pay26 (running (4#32 * Scf.iv 0#32 1#32 k + 1#32 + 0#32) (k1_pay27 v66)) a e0) e1) e2) e3)
          (denStep v17 (running (4#32 * Scf.iv 0#32 1#32 k + 1#32 + 3#32) (k1_pay27 v66))
            (denStep v17 (running (4#32 * Scf.iv 0#32 1#32 k + 1#32 + 2#32) (k1_pay27 v66))
              (denStep v17 (running (4#32 * Scf.iv 0#32 1#32 k + 1#32 + 1#32) (k1_pay27 v66))
                (denStep v17 (running (4#32 * Scf.iv 0#32 1#32 k + 1#32 + 0#32) (k1_pay27 v66)) d e0) e1) e2) e3) := by
  subst h0 h1 h2 h3
  unfold tripR_k1_t1 trip_k1_t1 carry
  sl_unfold_run_names
  simp only [pay4_eq, pay5_eq, pay7_eq, pay8_eq, pay9_eq, pay10_eq, pay12_eq, pay13_eq, pay14_eq, pay16_eq, pay17_eq, pay19_eq,
    pay20_eq, pay21_eq, pay22_eq, pay36_eq, pay37_eq, pay34_eq, pay35_eq]
  rfl

/-- Before trip `k` the loop carries both recursions after `4 k` frames. -/
theorem st_eq (x : Vec F S512x16x128 .f32) (hX : arg0.view.read (Elt F) X = x) (a d : FVec F S16x64 .f32) (k : ℕ)
    (hk : k ≤ k1_t1_loop.trips) :
    st_k1_t1 𝒱 c bd arg0 harg0 arg1 harg1 arg2 harg2 arg3 harg3 arg4 harg4 arg5 harg5 arg6 harg6 arg7 harg7 arg8 harg8 v16 v17 v46 v66 X (carry a d) k
      = carry (numSeq v16 v46 k1_pay26 (k1_pay27 v66) x a (4 * k)) (denSeq v17 (k1_pay27 v66) x d (4 * k)) := by
  induction k with
  | zero => exact st_k1_t1_zero ..
  | succ k ih =>
    have hk' : k < 127 := by have := trips_le; omega
    have hrow : ∀ r : Fin 4, View.readAt (Elt F) arg0.view (Rect.unit (s := S512x16x128) (k1_off1 ⟨k, hk⟩ (BitVec.ofNat 32 r.val)) S1x16x128.size
        (k1_off1_inb ⟨k, hk⟩ r)).toLoadRect X = rowOf x (4 * k + r.val + 1) := fun r => by
      rw [View.readAt_eq_ld, hX]
      exact ld_row x _ _ _ (k1_off1_eq ⟨k, hk⟩ r)
    rw [st_k1_t1_succ (k := ⟨k, hk⟩)]
    simp only
    rw [ih (by omega)]
    rw [trip_steps (h0 := hrow 0) (h1 := hrow 1) (h2 := hrow 2) (h3 := hrow 3)]
    have e0 := frameWord k 0 hk' (by decide)
    have e1 := frameWord k 1 hk' (by decide)
    have e2 := frameWord k 2 hk' (by decide)
    have e3 := frameWord k 3 hk' (by decide)
    rw [e0, e1, e2, e3]
    rfl

end Trip

end Cert.KernelIdeal.Steps

end
-- ==== Proof.Block.lean ====
module

public import proofs.«01_k».proof.Proof.Recur

@[expose] public section

set_option maxRecDepth 65536

noncomputable section

/-! The forward kernel's one block after the body. -/

namespace Cert.KernelIdeal.Steps

open Idealize.ShloMosaic Idealize.ShloMosaic.TcCoe Idealize.ShloMosaic.Tactic Idealize.SL Idealize.SL.Sem Cert.KernelIdeal Cert.KernelIdeal.Gen
open Idealize.ShloMosaic.ValueIdx

variable {F : FTy → Type} [FloatOps F]

/-- The numerator's scores after `n` frames, from the kernel's inputs. -/
def numRun (x0 : Vec F S512x16x128 .f32) (x1 : Vec F S64x16x64 .f32) (x3 : Vec F S16x64 .f32) (x7 : Vec F S16x1 .i32) (n : ℕ) :
    FVec F S16x64 .f32 :=
  numSeq (k1_pay23 x1) k1_pay25 k1_pay26 (k1_pay27 x7) x0 (k1_pay29 (rowOf x0 0) x3) n

/-- The denominator's scores after `n` frames, from the kernel's inputs. -/
def denRun (x0 : Vec F S512x16x128 .f32) (x2 : Vec F S64x1x64 .f32) (x4 : Vec F S1x64 .f32) (x7 : Vec F S16x1 .i32) (n : ℕ) :
    FVec F S16x64 .f32 :=
  denSeq (k1_pay24 x2) (k1_pay27 x7) x0 (k1_pay30 (rowOf x0 0) x4) n

/-- The whole of a two-axis block, loaded. -/
theorem ld_whole2 {A B : ℕ} {e : EltTy} (x : Vec F ⟨2, ![A, B]⟩ e) (inb : ∀ a, ![0, 0] a + (⟨2, ![A, B]⟩ : Shape).size a ≤ (⟨2, ![A, B]⟩ : Shape).size a) :
    View.ld x (Rect.unit (s := ⟨2, ![A, B]⟩) ![0, 0] (⟨2, ![A, B]⟩ : Shape).size inb) = x := by
  funext i
  refine View.ld_unit_apply_of _ _ _ _ _ _ fun a => ?_
  match a with
  | ⟨0, _⟩ => exact (Nat.zero_add _).symm
  | ⟨1, _⟩ => exact (Nat.zero_add _).symm

/-- The whole of a three-axis block, loaded. -/
theorem ld_whole3 {A B C : ℕ} {e : EltTy} (x : Vec F ⟨3, ![A, B, C]⟩ e)
    (inb : ∀ a, ![0, 0, 0] a + (⟨3, ![A, B, C]⟩ : Shape).size a ≤ (⟨3, ![A, B, C]⟩ : Shape).size a) :
    View.ld x (Rect.unit (s := ⟨3, ![A, B, C]⟩) ![0, 0, 0] (⟨3, ![A, B, C]⟩ : Shape).size inb) = x := by
  funext i
  refine View.ld_unit_apply_of _ _ _ _ _ _ fun a => ?_
  match a with
  | ⟨0, _⟩ => exact (Nat.zero_add _).symm
  | ⟨1, _⟩ => exact (Nat.zero_add _).symm
  | ⟨2, _⟩ => exact (Nat.zero_add _).symm

/-- The forward kernel stores the loss of both recursions after 511 frames. -/
theorem out1_eq (c : Dev nD) (arg0 : Memref sig .tc .vmem S512x16x128 .f32) (harg0 : arg0.IsWhole) (arg1 : Memref sig .tc .vmem S64x16x64 .f32) (harg1 : arg1.IsWhole) (arg2 : Memref sig .tc .vmem S64x1x64 .f32) (harg2 : arg2.IsWhole) (arg3 : Memref sig .tc .vmem S16x64 .f32) (harg3 : arg3.IsWhole) (arg4 : Memref sig .tc .vmem S1x64 .f32) (harg4 : arg4.IsWhole) (arg5 : Memref sig .tc .vmem S16x64 .f32) (harg5 : arg5.IsWhole) (arg6 : Memref sig .tc .vmem S1x64 .f32) (harg6 : arg6.IsWhole) (arg7 : Memref sig .tc .vmem S16x1 .i32) (harg7 : arg7.IsWhole) (arg8 : Memref sig .tc .vmem S1x1 .f32) (harg8 : arg8.IsWhole)
    (x0 : Vec F S512x16x128 .f32) (x1 : Vec F S64x16x64 .f32) (x2 : Vec F S64x1x64 .f32) (x3 : Vec F S16x64 .f32)
    (x4 : Vec F S1x64 .f32) (x5 : Vec F S16x64 .f32) (x6 : Vec F S1x64 .f32) (x7 : Vec F S16x1 .i32) :
    out1_A_8 c arg0 harg0 arg1 harg1 arg2 harg2 arg3 harg3 arg4 harg4 arg5 harg5 arg6 harg6 arg7 harg7 arg8 harg8 x0 x1 x2 x3 x4 x5 x6 x7
      = k1_pay1 (denRun x0 x2 x4 x7 511) (addf (numRun x0 x1 x3 x7 511) x5) (k1_pay56 x6) := by
  have w1 := ld_whole3 x1 inb_S64x16x64_S64x16x64_0_0_0
  have w2 := ld_whole3 x2 inb_S64x1x64_S64x1x64_0_0_0
  have w3 := ld_whole2 x3 inb_S16x64_S16x64_0_0
  have w4 := ld_whole2 x4 inb_S1x64_S1x64_0_0
  have w5 := ld_whole2 x5 inb_S16x64_S16x64_0_0
  have w6 := ld_whole2 x6 inb_S1x64_S1x64_0_0
  have w7 := ld_whole2 x7 inb_S16x1_S16x1_0_0
  have r0 := ld_row x0 _ inb_S512x16x128_S1x16x128_0_0_0 0 rfl
  have r509 := ld_row x0 _ inb_S512x16x128_S1x16x128_509_0_0 509 rfl
  have r510 := ld_row x0 _ inb_S512x16x128_S1x16x128_510_0_0 510 rfl
  have r511 := ld_row x0 _ inb_S512x16x128_S1x16x128_511_0_0 511 rfl
  have hst : st_k1_t1 Variants.none c none arg0 harg0 arg1 harg1 arg2 harg2 arg3 harg3 arg4 harg4 arg5 harg5 arg6 harg6 arg7 harg7 arg8 harg8 (k1_pay23 x1) (k1_pay24 x2) k1_pay25 x7 (harg0.unread x0)
      (k1_pay29 (rowOf x0 0) x3, k1_pay30 (rowOf x0 0) x4, rowMax (k1_pay29 (rowOf x0 0) x3), rowMax (k1_pay30 (rowOf x0 0) x4))
      (Scf.trips 0#32 (Scalar.addi 0#32 127#32) 1#32)
      = carry (numRun x0 x1 x3 x7 508) (denRun x0 x2 x4 x7 508) :=
    st_eq Variants.none none c arg0 harg0 arg1 harg1 arg2 harg2 arg3 harg3 arg4 harg4 arg5 harg5 arg6 harg6 arg7 harg7 arg8 harg8 (k1_pay23 x1) (k1_pay24 x2) k1_pay25 x7 (harg0.unread x0) x0 (harg0.read_unread x0) _ _
      k1_t1_loop.trips le_rfl
  unfold out1_A_8
  rw [View.read_writes_junk_eq_canon]
  unfold kernelRun1_A
  sl_unfold_run_names
  simp only [View.readAt_eq_ld, Memref.IsWhole.read_unread, w1, w2, w3, w4, w5, w6, w7, r0, r509, r510, r511, pay31_eq, pay32_eq]
  simp only [hst, carry, pay40_eq, pay41_eq, pay42_eq, pay43_eq, pay44_eq, pay47_eq, pay48_eq, pay49_eq, pay50_eq, pay51_eq, pay54_eq, pay55_eq]
  refine (View.canon_unit_zero (funext fun a => by fin_cases a <;> rfl) _ _).trans ?_
  rfl

end Cert.KernelIdeal.Steps

end
-- ==== Proof.Arrays.lean ====
module

public import proofs.«01_k».proof.Proof.Block
public import Idealize.ShloMosaic.Lib.Pipeline.ValueKit.Geometry

@[expose] public section

set_option maxRecDepth 16384

noncomputable section

/-! The two regions' result arrays, as functions of the arrays each region finds. -/

namespace Cert.KernelIdeal.Steps

open Idealize.ShloMosaic Idealize.ShloMosaic.TcCoe Idealize.ShloMosaic.Tactic Idealize.SL Idealize.SL.Sem Cert.KernelIdeal Cert.KernelIdeal.Gen
open Idealize.ShloMosaic.ValueIdx

variable {F : FTy → Type} [FloatOps F]

/-- What the emission kernel leaves for sequence `b`: [512, 128]. -/
def emisBlock (x : Vec F S16x512x2048 .f32) (u : Vec F S16x1x64 .i32) (w : Vec F S1x64 .i32) (b : Fin 16) : Vec F S512x128 .f32 :=
  out0_3 (fun j => x (ix3 b (j 1) (j 2))) (fun j => u (ix3 b (j 1) (j 2))) w

/-- The emission array: sequence `b`'s block in columns `128 b` to `128 b + 127`. -/
def emisArr (x : Vec F S16x512x2048 .f32) (u : Vec F S16x1x64 .i32) (w : Vec F S1x64 .i32) : Vec F S512x2048 .f32 := fun i =>
  emisBlock x u w (Fin.ofNat 16 ((i 1).val / 128)) (ix2 (i 0) (Fin.ofNat 128 ((i 1).val % 128)))

section Regions
variable (V : (c : Dev nD) → (b : Ref sig .tc) → Buf (Elt F) ((c : Thread nD τ).loc b)) (c : Dev nD)

theorem idx0_0 : ∀ t : Fin cfg0.N, win0_0.index t = ![t.val, 0, 0] := (by decide +kernel : ∀ t : Fin grid0.N, _)
theorem idx0_1 : ∀ t : Fin cfg0.N, win0_1.index t = ![t.val, 0, 0] := (by decide +kernel : ∀ t : Fin grid0.N, _)
theorem idx0_2 : ∀ t : Fin cfg0.N, win0_2.index t = ![0, 0] := (by decide +kernel : ∀ t : Fin grid0.N, _)
theorem idx0_3 : ∀ t : Fin cfg0.N, win0_3.index t = ![0, t.val] := (by decide +kernel : ∀ t : Fin grid0.N, _)

/-- Point `t`'s block of the input is sequence `t`. -/
theorem iblk0_0 (t : Fin cfg0.N) : (iblk0 V c 0 t : Vec F S1x512x2048 .f32)
    = fun j => (V c main_arg0 : Vec F S16x512x2048 .f32) (ix3 (Fin.ofNat 16 t.val) (j 1) (j 2)) := by
  funext j
  blk_simp [iblk0]
  refine congrArg (V c main_arg0 : Vec F S16x512x2048 .f32) ?_
  have ht : t.val < 16 := t.isLt
  have hm : t.val % 16 = t.val := Nat.mod_eq_of_lt ht
  blk_ext [idx0_0, ix3, Fin.ofNat, hm]

theorem iblk0_1 (t : Fin cfg0.N) : (iblk0 V c 1 t : Vec F S1x1x64 .i32)
    = fun j => (V c main_v0 : Vec F S16x1x64 .i32) (ix3 (Fin.ofNat 16 t.val) (j 1) (j 2)) := by
  funext j
  blk_simp [iblk0]
  refine congrArg (V c main_v0 : Vec F S16x1x64 .i32) ?_
  have ht : t.val < 16 := t.isLt
  have hm : t.val % 16 = t.val := Nat.mod_eq_of_lt ht
  blk_ext [idx0_1, ix3, Fin.ofNat, hm]

theorem iblk0_2 (t : Fin cfg0.N) : (iblk0 V c 2 t : Vec F S1x64 .i32) = V c main_v1 := by
  funext j
  blk_simp [iblk0]
  refine congrArg (V c main_v1 : Vec F S1x64 .i32) ?_
  blk_ext [idx0_2]

/-- The emission region leaves the emission array. -/
theorem final0 : (dat0 V c).arrAt 3 cfg0.N = emisArr (V c main_arg0) (V c main_v0) (V c main_v1) := by
  refine (dat0 V c).arrAt_eq_of_covers 3 _ (by decide +kernel) fun t hf y => ?_
  blk_simp
  rw [after0_3, iblk0_0, iblk0_1, iblk0_2]
  have ht : t.val < 16 := t.isLt
  obtain ⟨r, l, rfl⟩ : ∃ (r : Fin 512) (l : Fin 128), y = ix2 r l := ⟨y 0, y 1, eq_ix2 y⟩
  have e : (((cfg0.win 3).blk t).view.emb (ix2 r l) : S512x2048.Idx) = ix2 r (⟨128 * t.val + l.val, by have := l.isLt; omega⟩ : Fin 2048) := by
    blk_ext [idx0_3, ix2]
  refine Eq.trans ?_ (congrArg (emisArr (V c main_arg0) (V c main_v0) (V c main_v1)) e).symm
  unfold emisArr emisBlock
  have h1 : (128 * t.val + l.val) / 128 = t.val := by have := l.isLt; omega
  have h2 : (128 * t.val + l.val) % 128 = l.val := by have := l.isLt; omega
  have h3 : (Fin.ofNat 128 l.val : Fin 128) = l := Fin.ext (Nat.mod_eq_of_lt l.isLt)
  show _ = out0_3 (fun j => (V c main_arg0 : Vec F S16x512x2048 .f32) (ix3 (Fin.ofNat 16 ((128 * t.val + l.val) / 128)) (j 1) (j 2)))
    (fun j => (V c main_v0 : Vec F S16x1x64 .i32) (ix3 (Fin.ofNat 16 ((128 * t.val + l.val) / 128)) (j 1) (j 2))) (V c main_v1)
    (ix2 r (Fin.ofNat 128 ((128 * t.val + l.val) % 128)))
  rw [h1, h2, h3]
  rfl

theorem idx1_0 : ∀ t : Fin cfg1.N, win1_0.index t = ![0, 0, 0] := (by decide +kernel : ∀ t : Fin grid1.N, _)
theorem idx1_1 : ∀ t : Fin cfg1.N, win1_1.index t = ![0, 0, 0] := (by decide +kernel : ∀ t : Fin grid1.N, _)
theorem idx1_2 : ∀ t : Fin cfg1.N, win1_2.index t = ![0, 0, 0] := (by decide +kernel : ∀ t : Fin grid1.N, _)
theorem idx1_3 : ∀ t : Fin cfg1.N, win1_3.index t = ![0, 0] := (by decide +kernel : ∀ t : Fin grid1.N, _)
theorem idx1_4 : ∀ t : Fin cfg1.N, win1_4.index t = ![0, 0] := (by decide +kernel : ∀ t : Fin grid1.N, _)
theorem idx1_5 : ∀ t : Fin cfg1.N, win1_5.index t = ![0, 0] := (by decide +kernel : ∀ t : Fin grid1.N, _)
theorem idx1_6 : ∀ t : Fin cfg1.N, win1_6.index t = ![0, 0] := (by decide +kernel : ∀ t : Fin grid1.N, _)
theorem idx1_7 : ∀ t : Fin cfg1.N, win1_7.index t = ![0, 0] := (by decide +kernel : ∀ t : Fin grid1.N, _)
theorem idx1_8 : ∀ t : Fin cfg1.N, win1_8.index t = ![0, 0] := (by decide +kernel : ∀ t : Fin grid1.N, _)
/-! Each window of the forward region is its whole array. -/

theorem iblk1_0 (t : Fin cfg1.N) : (iblk1 V c 0 t : Vec F S512x16x128 .f32) = V c main_v3 := by
  funext j
  blk_simp [iblk1]
  refine congrArg (V c main_v3 : Vec F S512x16x128 .f32) ?_
  blk_ext [idx1_0]

theorem iblk1_1 (t : Fin cfg1.N) : (iblk1 V c 1 t : Vec F S64x16x64 .f32) = V c main_v4 := by
  funext j
  blk_simp [iblk1]
  refine congrArg (V c main_v4 : Vec F S64x16x64 .f32) ?_
  blk_ext [idx1_1]

theorem iblk1_2 (t : Fin cfg1.N) : (iblk1 V c 2 t : Vec F S64x1x64 .f32) = V c main_v5 := by
  funext j
  blk_simp [iblk1]
  refine congrArg (V c main_v5 : Vec F S64x1x64 .f32) ?_
  blk_ext [idx1_2]

theorem iblk1_3 (t : Fin cfg1.N) : (iblk1 V c 3 t : Vec F S16x64 .f32) = V c main_arg3 := by
  funext j
  blk_simp [iblk1]
  refine congrArg (V c main_arg3 : Vec F S16x64 .f32) ?_
  blk_ext [idx1_3]

theorem iblk1_4 (t : Fin cfg1.N) : (iblk1 V c 4 t : Vec F S1x64 .f32) = V c main_v6 := by
  funext j
  blk_simp [iblk1]
  refine congrArg (V c main_v6 : Vec F S1x64 .f32) ?_
  blk_ext [idx1_4]

theorem iblk1_5 (t : Fin cfg1.N) : (iblk1 V c 5 t : Vec F S16x64 .f32) = V c main_arg4 := by
  funext j
  blk_simp [iblk1]
  refine congrArg (V c main_arg4 : Vec F S16x64 .f32) ?_
  blk_ext [idx1_5]

theorem iblk1_6 (t : Fin cfg1.N) : (iblk1 V c 6 t : Vec F S1x64 .f32) = V c main_v7 := by
  funext j
  blk_simp [iblk1]
  refine congrArg (V c main_v7 : Vec F S1x64 .f32) ?_
  blk_ext [idx1_6]

theorem iblk1_7 (t : Fin cfg1.N) : (iblk1 V c 7 t : Vec F S16x1 .i32) = V c main_v8 := by
  funext j
  blk_simp [iblk1]
  refine congrArg (V c main_v8 : Vec F S16x1 .i32) ?_
  blk_ext [idx1_7]

/-- The forward region leaves its one block. -/
theorem final1 : (dat1 V c).arrAt 8 cfg1.N
    = k1_pay1 (denRun (V c main_v3) (V c main_v5) (V c main_v6) (V c main_v8) 511)
        (addf (numRun (V c main_v3) (V c main_v4) (V c main_arg3) (V c main_v8) 511) (V c main_arg4)) (k1_pay56 (V c main_v7)) := by
  refine (dat1 V c).arrAt_eq_of_covers 8 _ (by decide +kernel) fun t hf y => ?_
  blk_simp
  rw [after1_8]
  unfold outsAt1
  rw [out1_eq, iblk1_0, iblk1_1, iblk1_2, iblk1_3, iblk1_4, iblk1_5, iblk1_6, iblk1_7]
  refine congrArg (k1_pay1 _ _ _) ?_
  blk_ext [idx1_8]

end Regions

end Cert.KernelIdeal.Steps

end
-- ==== Proof.KernelRun.lean ====
module

public import proofs.«01_k».proof.Proof.Arrays
public import Idealize.ShloMosaic.Lib.Claim

@[expose] public section

set_option maxRecDepth 16384

noncomputable section

/-! The kernel's run with its result: every unscoped buffer at the last boundary's contents, and those contents at the
    result as a function of the arguments. -/

namespace Cert.KernelIdeal.Steps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Rounds
open Idealize.ShloMosaic.Pipeline (Dat Cfg Window)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every unscoped buffer ends at the last boundary's contents. -/
theorem run_all : θ_run defs (onTc (τ := τ) (main (F := F))) ⟨m, fun _ => 0, ρ⟩ (fun r => ∀ (c : Dev nD) (b : Ref sig .tc),
      ¬ (Proc.devRef .tc b : DevRef τ sig).isScoped → r.2.mem ((c.tc : Thread nD τ).loc b) = W5 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => fun c b hb => h c _ (mem_uc b hb))

/-- The emissions the first region computes, in the layout the second one reads. -/
def emis3 (x : Vec F S16x512x2048 .f32) (n : Vec F S16x64 .i32) (d : Vec F S64 .i32) : Vec F S512x16x128 .f32 :=
  shapeCast S512x16x128 (emisArr x (shapeCast S16x1x64 n shapeCasts_S16x64_S16x1x64) (shapeCast S1x64 d shapeCasts_S64_S1x64))
    shapeCasts_S512x2048_S512x16x128

/-- The kernel's result as a function of its ten arguments. -/
def kernelOut (a0 : Vec F S16x512x2048 .f32) (a1 : Vec F S16 .i32) (a2 : Vec F S16x64x64 .f32) (a3 a4 : Vec F S16x64 .f32)
    (a5 : Vec F S16x64 .i32) (a6 : Vec F S64x64 .f32) (a7 a8 : Vec F S64 .f32) (a9 : Vec F S64 .i32) : Vec F S_ .f32 :=
  shapeCast S_
    (k1_pay1
      (denRun (emis3 a0 a5 a9) (shapeCast S64x1x64 a6 shapeCasts_S64x64_S64x1x64) (shapeCast S1x64 a7 shapeCasts_S64_S1x64)
        (shapeCast S16x1 a1 shapeCasts_S16_S16x1) 511)
      (addf (numRun (emis3 a0 a5 a9) (transpose S64x16x64 [1, 0, 2] a2 transposes_S16x64x64_S64x16x64_1_0_2) a3
        (shapeCast S16x1 a1 shapeCasts_S16_S16x1) 511) a4)
      (k1_pay56 (shapeCast S1x64 a8 shapeCasts_S64_S1x64)))
    shapeCasts_S1x1_S_

/-- The contents at the end, read at the result. -/
theorem W5_result (c : Dev nD) : W5 m ρ c (Proc.devRef .tc main_v10)
    = kernelOut (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) := by
  have A1 := fun a ha => W1_args m ρ c a ha
  have A2 := fun a ha => W2_args m ρ c a ha
  have A3 := fun a ha => W3_args m ρ c a ha
  have h0 : W1 m ρ c (Proc.devRef .tc main_v0) = shapeCast S16x1x64 (m ((c.tc : Thread nD τ).loc main_arg5)) shapeCasts_S16x64_S16x1x64 := by
    unfold_abbrev_sides; after_results; try rfl
  have h1 : W1 m ρ c (Proc.devRef .tc main_v1) = shapeCast S1x64 (m ((c.tc : Thread nD τ).loc main_arg9)) shapeCasts_S64_S1x64 := by
    unfold_abbrev_sides; after_results; try rfl
  have h2 : W2 m ρ c (Proc.devRef .tc main_v2) = emisArr (m ((c.tc : Thread nD τ).loc main_arg0))
      (shapeCast S16x1x64 (m ((c.tc : Thread nD τ).loc main_arg5)) shapeCasts_S16x64_S16x1x64)
      (shapeCast S1x64 (m ((c.tc : Thread nD τ).loc main_arg9)) shapeCasts_S64_S1x64) := by
    refine (W2_arr m ρ c 3).trans ((final0 (V1 m ρ) c).trans ?_)
    show emisArr (W1 m ρ c (Proc.devRef .tc main_arg0)) (W1 m ρ c (Proc.devRef .tc main_v0)) (W1 m ρ c (Proc.devRef .tc main_v1)) = _
    rw [h0, h1, A1 main_arg0 (by decide)]
  have h3 : W3 m ρ c (Proc.devRef .tc main_v3) = emis3 (m ((c.tc : Thread nD τ).loc main_arg0)) (m ((c.tc : Thread nD τ).loc main_arg5))
      (m ((c.tc : Thread nD τ).loc main_arg9)) := by
    have : W3 m ρ c (Proc.devRef .tc main_v3) = shapeCast S512x16x128 (W2 m ρ c (Proc.devRef .tc main_v2)) shapeCasts_S512x2048_S512x16x128 := by
      unfold_abbrev_sides; after_results; try rfl
    rw [this, h2]; rfl
  have h4 : W3 m ρ c (Proc.devRef .tc main_v4) = transpose S64x16x64 [1, 0, 2] (W2 m ρ c (Proc.devRef .tc main_arg2)) transposes_S16x64x64_S64x16x64_1_0_2 := by
    unfold_abbrev_sides; after_results; try rfl
  have h5 : W3 m ρ c (Proc.devRef .tc main_v5) = shapeCast S64x1x64 (W2 m ρ c (Proc.devRef .tc main_arg6)) shapeCasts_S64x64_S64x1x64 := by
    unfold_abbrev_sides; after_results; try rfl
  have h6 : W3 m ρ c (Proc.devRef .tc main_v6) = shapeCast S1x64 (W2 m ρ c (Proc.devRef .tc main_arg7)) shapeCasts_S64_S1x64 := by
    unfold_abbrev_sides; after_results; try rfl
  have h7 : W3 m ρ c (Proc.devRef .tc main_v7) = shapeCast S1x64 (W2 m ρ c (Proc.devRef .tc main_arg8)) shapeCasts_S64_S1x64 := by
    unfold_abbrev_sides; after_results; try rfl
  have h8 : W3 m ρ c (Proc.devRef .tc main_v8) = shapeCast S16x1 (W2 m ρ c (Proc.devRef .tc main_arg1)) shapeCasts_S16_S16x1 := by
    unfold_abbrev_sides; after_results; try rfl
  have h9 : W5 m ρ c (Proc.devRef .tc main_v10) = shapeCast S_ (W4 m ρ c (Proc.devRef .tc main_v9)) shapeCasts_S1x1_S_ := by
    unfold_abbrev_sides; after_results; try rfl
  rw [h9]
  refine congrArg (fun z : Vec F S1x1 .f32 => shapeCast S_ z shapeCasts_S1x1_S_) ((W4_arr m ρ c 8).trans ((final1 (V3 m ρ) c).trans ?_))
  show k1_pay1 (denRun (W3 m ρ c (Proc.devRef .tc main_v3)) (W3 m ρ c (Proc.devRef .tc main_v5)) (W3 m ρ c (Proc.devRef .tc main_v6))
      (W3 m ρ c (Proc.devRef .tc main_v8)) 511)
    (addf (numRun (W3 m ρ c (Proc.devRef .tc main_v3)) (W3 m ρ c (Proc.devRef .tc main_v4)) (W3 m ρ c (Proc.devRef .tc main_arg3))
      (W3 m ρ c (Proc.devRef .tc main_v8)) 511) (W3 m ρ c (Proc.devRef .tc main_arg4))) (k1_pay56 (W3 m ρ c (Proc.devRef .tc main_v7))) = _
  rw [h3, h4, h5, h6, h7, h8, A3 main_arg3 (by decide), A3 main_arg4 (by decide), A2 main_arg1 (by decide), A2 main_arg2 (by decide),
    A2 main_arg6 (by decide), A2 main_arg7 (by decide), A2 main_arg8 (by decide)]

end Cert.KernelIdeal.Steps

end
-- ==== Proof.Emission.lean ====
module

public import proofs.«01_k».proof.Proof.StepValue
public import proofs.«01_k».proof.Proof.KernelRun

@[expose] public section

set_option maxRecDepth 16384

noncomputable section

/-! The emission kernel over the extended reals: multiplying by a matrix with a single one per column reads off a column. -/

namespace Cert.KernelIdeal.Emission

open Idealize.ShloMosaic Idealize.ShloMosaic.ValueIdx Cert.KernelIdeal Cert.KernelIdeal.Gen Cert.KernelIdeal.Steps

section Block
variable (v0 : Vec Ideal S1x512x2048 .f32) (v2 : Vec Ideal S1x1x64 .i32) (v4 : Vec Ideal S1x64 .i32)

/-- The two rows of column numbers, one after the other. -/
def columns : IVec S1x128 32 :=
  concatenate S1x128 1 [⟨S1x64, shapeCast S1x64 v2 shapeCasts_S1x1x64_S1x64⟩, ⟨S1x64, shapeCast S1x64 v4 shapeCasts_S1x64_S1x64⟩]
    concatenates_S1x64_S1x64_S1x128_d1

/-- The first 64 are the numerator's. -/
theorem columns_num (j : Fin 64) : columns v2 v4 (ix2 0 (⟨j.val, by omega⟩ : Fin 128)) = v2 (ix3 0 0 j) := by
  unfold columns
  rw [concatenate_pair_apply_left (t := S1x128) (s₁ := S1x64) 1 _ _ _ _ rfl (ix2 0 j) (fun a => by
    match a with
    | ⟨0, _⟩ => rfl
    | ⟨1, _⟩ => rfl)]
  exact shapeCast_1ab_ab_apply v2 _ 0 j

/-- The last 64 are the denominator's. -/
theorem columns_den (j : Fin 64) : columns v2 v4 (ix2 0 (⟨64 + j.val, by omega⟩ : Fin 128)) = v4 (ix2 0 j) := by
  unfold columns
  rw [concatenate_pair_apply_right (t := S1x128) (s₁ := S1x64) (s₂ := S1x64) 1 _ _ _ _ rfl rfl (ix2 0 j) (fun a ha => by
    match a with
    | ⟨0, _⟩ => rfl
    | ⟨1, _⟩ => exact absurd rfl ha) (Nat.add_comm _ _)]
  exact shapeCast_apply _ _ _ _ rfl

/-- The matrix with a single one in each column. -/
def oneHot : FVec Ideal S2048x128 .f32 :=
  sitofp .f32 (extui 32 (cmpi .eq (iota .tc S2048x128 32 [0] iota_S2048x128_d0_w32) (broadcastTo S2048x128 (columns v2 v4) broadcasts_S1x128_S2048x128)) natLt_1_32)

/-- Its one stands where the column number says. -/
theorem oneHot_apply (k : Fin 2048) (s : Fin 128) :
    oneHot v2 v4 (ix2 k s) = if k.val = (columns v2 v4 (ix2 0 s)).toNat then 1 else 0 := by
  have e : oneHot v2 v4 (ix2 k s)
      = (((BitVec.setWidth 32 (BitVec.ofBool (BitVec.ofNat 32 k.val == columns v2 v4 (ix2 0 s)))).toInt : ℝ) : EReal) := by
    have hi : iota .tc S2048x128 32 [0] iota_S2048x128_d0_w32 (ix2 k s) = BitVec.ofNat 32 k.val := iota_single_apply ..
    have hb : broadcastTo S2048x128 (columns v2 v4) broadcasts_S1x128_S2048x128 (ix2 k s) = columns v2 v4 (ix2 0 s) :=
      broadcastTo_1b_ab_apply _ _ k s
    rw [← hi, ← hb]
    rfl
  rw [e]
  by_cases h : k.val = (columns v2 v4 (ix2 0 s)).toNat
  · have : BitVec.ofNat 32 k.val = columns v2 v4 (ix2 0 s) := by rw [h]; exact BitVec.eq_of_toNat_eq (by simp)
    rw [if_pos h, this, beq_self_eq_true]
    simp
  · have : (BitVec.ofNat 32 k.val == columns v2 v4 (ix2 0 s)) = false := by
      refine beq_eq_false_iff_ne.mpr fun hc => h ?_
      rw [← hc, BitVec.toNat_ofNat, Nat.mod_eq_of_lt (by omega)]
    rw [if_neg h, this]
    simp

/-- The block's value: the input's entry in the column named. -/
theorem block_apply (t : Fin 512) (s : Fin 128) (q : Fin 2048) (hq : (columns v2 v4 (ix2 0 s)).toNat = q.val) :
    k0_pay1 v0 v2 v4 (ix2 t s) = v0 (ix3 0 t q) := by
  have e : k0_pay1 v0 v2 v4 (ix2 t s) = FloatOps.matmul (DotDims.plain 512 2048 128) none
      (shapeCast S512x2048 v0 shapeCasts_S1x512x2048_S512x2048) (oneHot v2 v4) (constant S512x128 .f32 0x00000000#32) (ix2 t s) := rfl
  rw [e, Ideal.matmul_plain_apply]
  have hz : (constant S512x128 .f32 0x00000000#32 : FVec Ideal S512x128 .f32) (ix2 t s) = 0 := Ideal.ofBits_zero_f32
  rw [hz, zero_add]
  refine (Finset.sum_eq_single q (fun k _ hk => ?_) (fun h => absurd (Finset.mem_univ _) h)).trans ?_
  · rw [oneHot_apply, if_neg (fun h => hk (Fin.ext (h.trans hq))), mul_zero]
  · rw [oneHot_apply, if_pos hq.symm, mul_one]
    exact shapeCast_1ab_ab_apply v0 _ t q

end Block

section Array
variable (x : Vec Ideal S16x512x2048 .f32) (n : Vec Ideal S16x64 .i32) (d : Vec Ideal S64 .i32)

/-- The emissions at a frame, a sequence and a place, in terms of that sequence's block. -/
theorem emis3_block (t : Fin 512) (b : Fin 16) (s : Fin 128) :
    emis3 x n d (ix3 t b s)
      = k0_pay1 (fun j => x (ix3 b (j 1) (j 2)))
          (fun j => shapeCast S16x1x64 n shapeCasts_S16x64_S16x1x64 (ix3 b (j 1) (j 2))) (shapeCast S1x64 d shapeCasts_S64_S1x64) (ix2 t s) := by
  have hs := s.isLt
  have hb := b.isLt
  unfold emis3
  rw [shapeCast_apply _ _ _ (ix2 t (⟨128 * b.val + s.val, by omega⟩ : Fin 2048)) (by
    rw [Shape.rowMajor_val_three, Shape.rowMajor_val_two]
    show t.val * 2048 + (128 * b.val + s.val) = (t.val * 16 + b.val) * 128 + s.val
    omega)]
  have e1 : Fin.ofNat 16 ((128 * b.val + s.val) / 128) = b := Fin.ext (by simp only [Fin.ofNat]; omega)
  have e2 : Fin.ofNat 128 ((128 * b.val + s.val) % 128) = s := Fin.ext (by simp only [Fin.ofNat]; omega)
  unfold emisArr
  show emisBlock x _ _ (Fin.ofNat 16 ((128 * b.val + s.val) / 128)) (ix2 t (Fin.ofNat 128 ((128 * b.val + s.val) % 128))) = _
  rw [e1, e2]
  unfold emisBlock out0_3
  rw [View.canon_unit_zero (funext fun a => by fin_cases a <;> rfl)]
  congr 2
  · exact ld_whole3 _ _
  · exact ld_whole3 _ _
  · exact ld_whole2 _ _

/-- The numerator's emissions. -/
theorem emis3_num (t : Fin 512) (b : Fin 16) (j : Fin 64) (q : Fin 2048) (hq : (n (ix2 b j)).toNat = q.val) :
    emis3 x n d (ix3 t b (⟨j.val, by omega⟩ : Fin 128)) = x (ix3 b t q) := by
  rw [emis3_block, block_apply _ _ _ t _ q]
  rw [columns_num]
  have h : shapeCast S16x1x64 n shapeCasts_S16x64_S16x1x64 (ix3 b 0 j) = n (ix2 b j) := shapeCast_apply _ _ _ _ (by
    rw [Shape.rowMajor_val_three, Shape.rowMajor_val_two]
    show b.val * 64 + j.val = (b.val * 1 + 0) * 64 + j.val
    omega)
  rw [← hq, ← h]

/-- The denominator's emissions. -/
theorem emis3_den (t : Fin 512) (b : Fin 16) (j : Fin 64) (q : Fin 2048) (hq : (d (ix1 j)).toNat = q.val) :
    emis3 x n d (ix3 t b (⟨64 + j.val, by omega⟩ : Fin 128)) = x (ix3 b t q) := by
  rw [emis3_block, block_apply _ _ _ t _ q]
  rw [columns_den, ← hq]
  exact congrArg BitVec.toNat (shapeCast_a_1a_apply d _ 0 j)

end Array

end Cert.KernelIdeal.Emission
-- ==== Proof.Agree.lean ====
module

public import proofs.«01_k».proof.Proof.RefValue
public import proofs.«01_k».proof.Proof.StepValue
public import proofs.«01_k».proof.Proof.Emission

@[expose] public section

set_option maxRecDepth 16384

noncomputable section

/-! The kernel and the reference hold the same scores after every frame, and make the same loss of them. -/

namespace Cert.Agree

open Idealize.ShloMosaic Idealize.ShloMosaic.ValueIdx Cert.KernelIdeal Cert.KernelIdeal.Gen Cert.KernelIdeal.Steps
open Cert.KernelIdeal.StepValue Cert.KernelIdeal.Emission
open Cert.ReferenceIdeal.RefValue

variable (a0 : Vec Ideal S16x512x2048 .f32) (a1 : Vec Ideal S16 .i32) (a2 : Vec Ideal S16x64x64 .f32) (a3 a4 : Vec Ideal S16x64 .f32)
  (a5 : Vec Ideal S16x64 .i32) (a6 : Vec Ideal S64x64 .f32) (a7 a8 : Vec Ideal S64 .f32) (a9 : Vec Ideal S64 .i32)

/-- What the precondition says of the arguments, entry by entry: words that name a column, reals, and weights below `⊤`. -/
structure Good : Prop where
  num : ∀ b j, (a5 (ix2 b j)).toNat < 2048
  den : ∀ j, (a9 (ix1 j)).toNat < 2048
  x : ∀ i, a0 i ≠ ⊤ ∧ a0 i ≠ ⊥
  numA : ∀ i, a2 i ≠ ⊤
  num0 : ∀ i, a3 i ≠ ⊤
  numF : ∀ i, a4 i ≠ ⊤
  denA : ∀ i, a6 i ≠ ⊤ ∧ a6 i ≠ ⊥
  den0 : ∀ i, a7 i ≠ ⊤ ∧ a7 i ≠ ⊥
  denF : ∀ i, a8 i ≠ ⊤ ∧ a8 i ≠ ⊥

/-- A sum of two reals is real. -/
theorem add_real {x y : EReal} (hx : x ≠ ⊤ ∧ x ≠ ⊥) (hy : y ≠ ⊤ ∧ y ≠ ⊥) : x + y ≠ ⊤ ∧ x + y ≠ ⊥ :=
  ⟨EReal.add_ne_top hx.1 hy.1, EReal.add_ne_bot_iff.mpr ⟨hx.2, hy.2⟩⟩

/-- The kernel's weights of the numerator: source first. -/
theorem num_weight (i : Fin 64) (b : Fin 16) (j : Fin 64) :
    transpose S64x16x64 [1, 0, 2] a2 transposes_S16x64x64_S64x16x64_1_0_2 (ix3 i b j) = a2 (ix3 b i j) :=
  transpose_apply _ _ _ _ _ fun a => by
    match a with
    | ⟨0, _⟩ => rfl
    | ⟨1, _⟩ => rfl
    | ⟨2, _⟩ => rfl

theorem num_weight_ne_top (h : ∀ i, a2 i ≠ ⊤) (k : S64x16x64.Idx) :
    transpose S64x16x64 [1, 0, 2] a2 transposes_S16x64x64_S64x16x64_1_0_2 k ≠ ⊤ := by
  rw [eq_ix3 k]
  exact fun e => h _ ((num_weight a2 _ _ _).symm.trans e)

/-- The kernel's weights of the denominator. -/
theorem den_weight (i : Fin 64) (j : Fin 64) (u : Fin 1) : shapeCast S64x1x64 a6 shapeCasts_S64x64_S64x1x64 (ix3 i u j) = a6 (ix2 i j) :=
  shapeCast_apply _ _ _ _ (by
    rw [Shape.rowMajor_val_three, Shape.rowMajor_val_two]
    show i.val * 64 + j.val = (i.val * 1 + u.val) * 64 + j.val
    omega)

theorem den_weight_ne_top (h : ∀ i, a6 i ≠ ⊤) (k : S64x1x64.Idx) : shapeCast S64x1x64 a6 shapeCasts_S64x64_S64x1x64 k ≠ ⊤ := by
  rw [eq_ix3 k]
  exact fun e => h _ ((den_weight a6 _ _ _).symm.trans e)

/-- The kernel's ending weights are the ones it loads. -/
theorem ending_row (y : Vec Ideal S1x64 .f32) (i : Fin 64) : k1_pay56 y (ix2 0 i) = y (ix2 0 i) := by
  show shapeCast S1x64 (shapeCast S1x64 y _) _ (ix2 0 i) = _
  rw [shapeCast_self, shapeCast_self]

/-- The kernel's bit of a step. -/
theorem running_apply (n : ℕ) (b : Fin 16) :
    running (BitVec.ofNat 32 (n + 1)) (k1_pay27 (shapeCast S16x1 a1 shapeCasts_S16_S16x1)) (ix2 b 0)
      = IntOp.cmpi .slt (BitVec.ofNat 32 (n + 1)) (a1 (ix1 b)) := by
  refine congrArg (IntOp.cmpi .slt (BitVec.ofNat 32 (n + 1)) ·) ?_
  exact (shapeCast_apply _ _ _ (ix2 b 0) rfl).trans (shapeCast_a_a1_apply _ _ b 0)

/-- A row of the emissions. -/
theorem rowOf_apply (x : Vec Ideal S512x16x128 .f32) (t : Fin 512) (b : Fin 16) (s : Fin 128) : rowOf x t.val (ix3 0 b s) = x (ix3 t b s) :=
  congrArg x (by
    show ix3 (Fin.ofNat 512 t.val) b s = ix3 t b s
    congr 1
    exact Fin.ext (Nat.mod_eq_of_lt t.isLt))

section Scores
variable {a0 a1 a2 a3 a4 a5 a6 a7 a8 a9} (H : Good a0 a2 a3 a4 a5 a6 a7 a8 a9)

/-- The kernel's numerator scores after `n` frames. -/
abbrev kn (a0 : Vec Ideal S16x512x2048 .f32) (a1 : Vec Ideal S16 .i32) (a2 : Vec Ideal S16x64x64 .f32) (a3 : Vec Ideal S16x64 .f32)
    (a5 : Vec Ideal S16x64 .i32) (a9 : Vec Ideal S64 .i32) (n : ℕ) : FVec Ideal S16x64 .f32 :=
  numRun (emis3 a0 a5 a9) (transpose S64x16x64 [1, 0, 2] a2 transposes_S16x64x64_S64x16x64_1_0_2) a3 (shapeCast S16x1 a1 shapeCasts_S16_S16x1) n

/-- The kernel's denominator scores after `n` frames. -/
abbrev kd (a0 : Vec Ideal S16x512x2048 .f32) (a1 : Vec Ideal S16 .i32) (a5 : Vec Ideal S16x64 .i32) (a6 : Vec Ideal S64x64 .f32)
    (a7 : Vec Ideal S64 .f32) (a9 : Vec Ideal S64 .i32) (n : ℕ) : FVec Ideal S16x64 .f32 :=
  denRun (emis3 a0 a5 a9) (shapeCast S64x1x64 a6 shapeCasts_S64x64_S64x1x64) (shapeCast S1x64 a7 shapeCasts_S64_S1x64)
    (shapeCast S16x1 a1 shapeCasts_S16_S16x1) n

/-- The two programs agree in a state of the reference's loop after `n` trips: the same scores, the numerator's below `⊤`
    and the denominator's real, and the loop's other values as at its start. -/
structure Same (a0 : Vec Ideal S16x512x2048 .f32) (a1 : Vec Ideal S16 .i32) (a2 : Vec Ideal S16x64x64 .f32) (a3 : Vec Ideal S16x64 .f32)
    (a5 : Vec Ideal S16x64 .i32) (a6 : Vec Ideal S64x64 .f32) (a7 : Vec Ideal S64 .f32) (a9 : Vec Ideal S64 .i32) (n : ℕ)
    (s : Cert.ReferenceIdeal.Step.State Ideal) : Prop where
  num : ∀ b j, kn a0 a1 a2 a3 a5 a9 n (ix2 b j) = s.main_v33_7 (ix2 b j)
  numTop : ∀ b j, s.main_v33_7 (ix2 b j) ≠ ⊤
  den : ∀ b j, kd a0 a1 a5 a6 a7 a9 n (ix2 b j) = s.main_v33_8 (ix2 b j)
  denReal : ∀ b j, s.main_v33_8 (ix2 b j) ≠ ⊤ ∧ s.main_v33_8 (ix2 b j) ≠ ⊥
  emitNum : s.main_v33_0 = Cert.ReferenceIdeal.Step.A_main_v27 (F := Ideal) a0 a3 a5 a6 a7 a9
  emitDen : s.main_v33_1 = Cert.ReferenceIdeal.Step.A_main_v29 (F := Ideal) a0 a3 a5 a6 a7 a9
  weightNum : s.main_v33_3 = a2
  lengths : s.main_v33_4 = a1
  weightDen : s.main_v33_5 = Cert.ReferenceIdeal.Step.A_main_v1 (F := Ideal) a0 a3 a5 a6 a7 a9

include H in
/-- They agree at the start. -/
theorem same_zero : Same a0 a1 a2 a3 a5 a6 a7 a9 0 (Cert.ReferenceIdeal.Step.init (F := Ideal) a2 a1 a0 a3 a5 a6 a7 a9) where
  num b j := by
    refine (num_first _ _ b j).trans ?_
    rw [show rowOf (emis3 a0 a5 a9) 0 (ix3 0 b ⟨j.val, by omega⟩) = emis3 a0 a5 a9 (ix3 0 b ⟨j.val, by omega⟩) from rowOf_apply _ 0 b _]
    rw [emis3_num a0 a5 a9 0 b j ⟨_, H.num b j⟩ rfl]
    exact (first_num a0 a3 a5 a6 a7 a9 b j ⟨_, H.num b j⟩ rfl).symm
  numTop b j := by
    show Cert.ReferenceIdeal.Step.A_main_v22 (F := Ideal) a0 a3 a5 a6 a7 a9 (ix2 b j) ≠ ⊤
    rw [first_num a0 a3 a5 a6 a7 a9 b j ⟨_, H.num b j⟩ rfl]
    exact EReal.add_ne_top (H.num0 _) (H.x _).1
  den b j := by
    refine (den_first _ _ b j).trans ?_
    rw [show rowOf (emis3 a0 a5 a9) 0 (ix3 0 b ⟨64 + j.val, by omega⟩) = emis3 a0 a5 a9 (ix3 0 b ⟨64 + j.val, by omega⟩) from rowOf_apply _ 0 b _]
    rw [emis3_den a0 a5 a9 0 b j ⟨_, H.den j⟩ rfl, shapeCast_a_1a_apply a7 _ 0 j]
    exact (first_den a0 a3 a5 a6 a7 a9 b j ⟨_, H.den j⟩ rfl).symm
  denReal b j := by
    show Cert.ReferenceIdeal.Step.A_main_v25 (F := Ideal) a0 a3 a5 a6 a7 a9 (ix2 b j) ≠ ⊤ ∧
      Cert.ReferenceIdeal.Step.A_main_v25 (F := Ideal) a0 a3 a5 a6 a7 a9 (ix2 b j) ≠ ⊥
    rw [first_den a0 a3 a5 a6 a7 a9 b j ⟨_, H.den j⟩ rfl]
    exact add_real (H.den0 _) (H.x _)
  emitNum := rfl
  emitDen := rfl
  weightNum := rfl
  lengths := rfl
  weightDen := rfl

include H in
/-- A trip keeps them agreeing. -/
theorem same_succ (n : ℕ) (hn : n < 511) (s : Cert.ReferenceIdeal.Step.State Ideal) (S : Same a0 a1 a2 a3 a5 a6 a7 a9 n s) :
    Same a0 a1 a2 a3 a5 a6 a7 a9 (n + 1) (Cert.ReferenceIdeal.Step.step n s) := by
  have hs : ∀ b i j, s.main_v33_7 (ix2 b i) + s.main_v33_3 (ix3 b i j) ≠ ⊤ := fun b i j => by
    rw [S.weightNum]; exact EReal.add_ne_top (S.numTop b i) (H.numA _)
  have hw : ∀ b i j, s.main_v33_5 (ix3 b i j) = a6 (ix2 i j) := fun b i j => by
    rw [S.weightDen]; exact shared_apply a0 a3 a5 a6 a7 a9 b i j
  have hd : ∀ b i j, s.main_v33_8 (ix2 b i) + s.main_v33_5 (ix3 b i j) ≠ ⊤ ∧ s.main_v33_8 (ix2 b i) + s.main_v33_5 (ix3 b i j) ≠ ⊥ := fun b i j => by
    rw [hw]; exact add_real (S.denReal b i) (H.denA _)
  have hact : ∀ b, Cert.ReferenceIdeal.Step.b34 n s (ix1 b) = IntOp.cmpi .slt (BitVec.ofNat 32 (n + 1)) (a1 (ix1 b)) := fun b => by
    rw [active_apply n hn s b, S.lengths]
  have hen : ∀ b j, Cert.ReferenceIdeal.Step.b3 n s (ix2 b j) = a0 (ix3 b ⟨n + 1, by omega⟩ ⟨_, H.num b j⟩) := fun b j => by
    refine (frame_num ⟨n, hn⟩ s b j).trans ?_
    rw [S.emitNum, rest_num a0 a3 a5 a6 a7 a9 ⟨n, hn⟩ b j ⟨_, H.num b j⟩ rfl]
  have hed : ∀ b j, Cert.ReferenceIdeal.Step.b7 n s (ix2 b j) = a0 (ix3 b ⟨n + 1, by omega⟩ ⟨_, H.den j⟩) := fun b j => by
    refine (frame_den ⟨n, hn⟩ s b j).trans ?_
    rw [S.emitDen, rest_den a0 a3 a5 a6 a7 a9 ⟨n, hn⟩ b j ⟨_, H.den j⟩ rfl]
  have vn : ∀ b j, (Cert.ReferenceIdeal.Step.step n s).main_v33_7 (ix2 b j)
      = if IntOp.cmpi .slt (BitVec.ofNat 32 (n + 1)) (a1 (ix1 b)) = 1#1
        then Lse.lse (fun i => s.main_v33_7 (ix2 b i) + a2 (ix3 b i j)) + a0 (ix3 b ⟨n + 1, by omega⟩ ⟨_, H.num b j⟩)
        else s.main_v33_7 (ix2 b j) := fun b j => by
    rw [Cert.ReferenceIdeal.Step.step_main_v33_7, b37_eq]
    refine (trip_apply _ _ b j _ _ fun i => hs b i j).trans ?_
    rw [hact, hen, S.weightNum]
  have vd : ∀ b j, (Cert.ReferenceIdeal.Step.step n s).main_v33_8 (ix2 b j)
      = if IntOp.cmpi .slt (BitVec.ofNat 32 (n + 1)) (a1 (ix1 b)) = 1#1
        then Lse.lse (fun i => s.main_v33_8 (ix2 b i) + a6 (ix2 i j)) + a0 (ix3 b ⟨n + 1, by omega⟩ ⟨_, H.den j⟩)
        else s.main_v33_8 (ix2 b j) := fun b j => by
    rw [Cert.ReferenceIdeal.Step.step_main_v33_8, b65_eq]
    refine (trip_apply _ _ b j _ _ fun i => (hd b i j).1).trans ?_
    rw [active_same, hact, hed]
    simp only [hw]
  refine ⟨fun b j => ?_, fun b j => ?_, fun b j => ?_, fun b j => ?_, S.emitNum, S.emitDen, S.weightNum, S.lengths, S.weightDen⟩
  · rw [vn]
    refine (numStep_apply (kn a0 a1 a2 a3 a5 a9 n) (rowOf (emis3 a0 a5 a9) (n + 1))
      (running (BitVec.ofNat 32 (n + 1)) (k1_pay27 (shapeCast S16x1 a1 shapeCasts_S16_S16x1))) b j _ (num_weight_ne_top a2 H.numA) (fun i => by rw [S.num b i]; exact S.numTop b i)).trans ?_
    rw [running_apply, S.num b j]
    rw [show rowOf (emis3 a0 a5 a9) (n + 1) (ix3 0 b ⟨j.val, by omega⟩) = emis3 a0 a5 a9 (ix3 ⟨n + 1, by omega⟩ b ⟨j.val, by omega⟩) from
      rowOf_apply _ ⟨n + 1, by omega⟩ b _, emis3_num a0 a5 a9 _ b j ⟨_, H.num b j⟩ rfl]
    simp only [S.num]
    exact if_congr Iff.rfl (congrArg (· + _) (congrArg Lse.lse (funext fun i => congrArg (_ + ·) (num_weight a2 i b j)))) rfl
  · rw [vn]
    split
    · exact EReal.add_ne_top (Lse.lse_ne_top _) (H.x _).1
    · exact S.numTop b j
  · rw [vd]
    refine (denStep_apply (kd a0 a1 a5 a6 a7 a9 n) (rowOf (emis3 a0 a5 a9) (n + 1))
      (running (BitVec.ofNat 32 (n + 1)) (k1_pay27 (shapeCast S16x1 a1 shapeCasts_S16_S16x1))) b j _ (den_weight_ne_top a6 fun i => (H.denA i).1) (fun i => by rw [S.den b i]; exact (S.denReal b i).1)).trans ?_
    rw [running_apply, S.den b j]
    rw [show rowOf (emis3 a0 a5 a9) (n + 1) (ix3 0 b ⟨64 + j.val, by omega⟩) = emis3 a0 a5 a9 (ix3 ⟨n + 1, by omega⟩ b ⟨64 + j.val, by omega⟩) from
      rowOf_apply _ ⟨n + 1, by omega⟩ b _, emis3_den a0 a5 a9 _ b j ⟨_, H.den j⟩ rfl]
    simp only [S.den]
    exact if_congr Iff.rfl (congrArg (· + _) (congrArg Lse.lse (funext fun i => congrArg (_ + ·) (den_weight a6 i j 0)))) rfl
  · rw [vd]
    split
    · have h0 := hd b 0 j
      rw [hw] at h0
      exact add_real ⟨Lse.lse_ne_top _, Lse.lse_ne_bot 0 h0.2 h0.1⟩ (H.x _)
    · exact S.denReal b j

include H in
/-- They agree after every trip. -/
theorem same (it : ℕ → Cert.ReferenceIdeal.Step.State Ideal) (h0 : it 0 = Cert.ReferenceIdeal.Step.init (F := Ideal) a2 a1 a0 a3 a5 a6 a7 a9)
    (hs : ∀ n, it (n + 1) = Cert.ReferenceIdeal.Step.step n (it n)) (n : ℕ) (hn : n ≤ 511) : Same a0 a1 a2 a3 a5 a6 a7 a9 n (it n) := by
  induction n with
  | zero => rw [h0]; exact same_zero H
  | succ n ih => rw [hs]; exact same_succ H n (by omega) _ (ih (by omega))

include H in
/-- The two results are equal. -/
theorem result (it : ℕ → Cert.ReferenceIdeal.Step.State Ideal) (h0 : it 0 = Cert.ReferenceIdeal.Step.init (F := Ideal) a2 a1 a0 a3 a5 a6 a7 a9)
    (hs : ∀ n, it (n + 1) = Cert.ReferenceIdeal.Step.step n (it n)) :
    Cert.ReferenceIdeal.Step.R_main_v68 (it 511) a4 a8 = kernelOut a0 a1 a2 a3 a4 a5 a6 a7 a8 a9 := by
  have S := same H it h0 hs 511 le_rfl
  have hf : ∀ i : Fin 64, k1_pay56 (shapeCast S1x64 a8 shapeCasts_S64_S1x64) (ix2 0 i) = a8 (ix1 i) := fun i =>
    (ending_row _ i).trans (shapeCast_a_1a_apply a8 _ 0 i)
  have hn : ∀ b i, (it 511).main_v33_7 (ix2 b i) + a4 (ix2 b i) ≠ ⊤ := fun b i => EReal.add_ne_top (S.numTop b i) (H.numF _)
  have hd : ∀ b i, (it 511).main_v33_8 (ix2 b i) + a8 (ix1 i) ≠ ⊤ ∧ (it 511).main_v33_8 (ix2 b i) + a8 (ix1 i) ≠ ⊥ :=
    fun b i => add_real (S.denReal b i) (H.denF _)
  have hk := loss_apply (kd a0 a1 a5 a6 a7 a9 511) (addf (kn a0 a1 a2 a3 a5 a9 511) a4) (k1_pay56 (shapeCast S1x64 a8 shapeCasts_S64_S1x64))
    (fun b i => by rw [addf_apply, S.num b i]; exact hn b i) (fun b i => by rw [S.den b i, hf]; exact (hd b i).1) (ix2 0 0)
  simp only [addf_apply, S.num, S.den, hf] at hk
  rw [Lse.neg_sum] at hk
  · funext o
    rw [result_eq]
    refine (endLoss_apply _ _ (fun b i => hn b i) (fun b i => by rw [addf_apply, every_apply]; exact (hd b i).1) o).trans ?_
    simp only [addf_apply, every_apply]
    refine hk.symm.trans (Eq.symm ?_)
    unfold kernelOut
    generalize k1_pay1 (F := Ideal) _ _ _ = y
    exact shapeCast_apply y _ _ (ix2 (0 : Fin 1) (0 : Fin 1)) (by
      rw [Shape.rowMajor_val_two]
      exact (Nat.lt_one_iff.1 (S_.rowMajor o).isLt).symm)
  · intro b
    rw [sub_eq_add_neg]
    refine EReal.add_ne_top (Lse.lse_ne_top _) fun e => ?_
    exact Lse.lse_ne_bot 0 (hd b 0).2 (hd b 0).1 (EReal.neg_eq_top_iff.mp e)

end Scores

end Cert.Agree
-- ==== Proof.Given.lean ====
module

public import proofs.«01_k».proof.Proof.Agree
public import proofs.«01_k».proof.Pre_graphs

@[expose] public section

set_option maxRecDepth 16384

noncomputable section

/-! The precondition, entry by entry. -/

namespace Cert.Given

open Idealize.ShloMosaic Idealize.ShloMosaic.ValueIdx Cert.Pre_graphs

/-- The bit of "below infinity". -/
theorem below {x : EReal} (h : FloatOps.cmpf (F := Ideal) (φ := .f32) .olt x (Ideal.ofBits .f32 0x7F800000#32) = 1#1) : x ≠ ⊤ := by
  rw [Lse.ofBits_inf, Ideal.cmpf_def] at h
  rintro rfl
  simp [Ideal.cmp] at h

/-- The bit of "the absolute value is below infinity": a real. -/
theorem finite {x : EReal} (h : FloatOps.cmpf (F := Ideal) (φ := .f32) .olt (max x (-x)) (Ideal.ofBits .f32 0x7F800000#32) = 1#1) :
    x ≠ ⊤ ∧ x ≠ ⊥ := by
  have := below h
  constructor <;> rintro rfl <;> simp at this

/-- The bit of "not negative and below 2048": a column's number. -/
theorem column {w : BitVec 32} (h : IntOp.andi (IntOp.cmpi .sge w 0#32) (IntOp.cmpi .slt w 2048#32) = 1#1) : w.toNat < 2048 := by
  have h0 : IntOp.cmpi .sge w 0#32 = BitVec.ofBool (BitVec.sle 0#32 w) := rfl
  have h1 : IntOp.cmpi .slt w 2048#32 = BitVec.ofBool (BitVec.slt w 2048#32) := rfl
  rw [h0, h1] at h
  have ha : BitVec.sle 0#32 w = true := by
    by_contra e; rw [Bool.not_eq_true] at e; rw [e] at h
    generalize BitVec.slt w 2048#32 = y at h
    cases y <;> exact absurd h (by decide)
  have hb : BitVec.slt w 2048#32 = true := by
    by_contra e; rw [Bool.not_eq_true] at e; rw [e, ha] at h
    exact absurd h (by decide)
  have hw := w.isLt
  rw [BitVec.sle_eq_decide, decide_eq_true_eq, BitVec.toInt_zero] at ha
  rw [BitVec.slt_eq_decide, decide_eq_true_eq, show (2048#32 : BitVec 32).toInt = 2048 from rfl] at hb
  rw [BitVec.toInt_eq_toNat_cond] at ha hb
  split at ha <;> omega

variable [Cert.Pre_graphs.Facts]

/-- The precondition gives what the proof reads of it. -/
theorem good (a0 : FVec Ideal S16x512x2048 .f32) (a1 : IVec S16 32) (a2 : FVec Ideal S16x64x64 .f32) (a3 a4 : FVec Ideal S16x64 .f32)
    (a5 : IVec S16x64 32) (a6 : FVec Ideal S64x64 .f32) (a7 a8 : FVec Ideal S64 .f32) (a9 : IVec S64 32)
    (h1 : (fn (F := Ideal) a0 a1 a2 a3 a4 a5 a6 a7 a8 a9).1 = fun _ => 1#1)
    (h2 : (fn (F := Ideal) a0 a1 a2 a3 a4 a5 a6 a7 a8 a9).2.1 = fun _ => 1#1)
    (h3 : (fn (F := Ideal) a0 a1 a2 a3 a4 a5 a6 a7 a8 a9).2.2.1 = fun _ => 1#1)
    (h4 : (fn (F := Ideal) a0 a1 a2 a3 a4 a5 a6 a7 a8 a9).2.2.2.1 = fun _ => 1#1)
    (h5 : (fn (F := Ideal) a0 a1 a2 a3 a4 a5 a6 a7 a8 a9).2.2.2.2.1 = fun _ => 1#1)
    (h6 : (fn (F := Ideal) a0 a1 a2 a3 a4 a5 a6 a7 a8 a9).2.2.2.2.2.1 = fun _ => 1#1)
    (h7 : (fn (F := Ideal) a0 a1 a2 a3 a4 a5 a6 a7 a8 a9).2.2.2.2.2.2.1 = fun _ => 1#1)
    (h8 : (fn (F := Ideal) a0 a1 a2 a3 a4 a5 a6 a7 a8 a9).2.2.2.2.2.2.2.1 = fun _ => 1#1)
    (h9 : (fn (F := Ideal) a0 a1 a2 a3 a4 a5 a6 a7 a8 a9).2.2.2.2.2.2.2.2 = fun _ => 1#1) :
    Agree.Good a0 a2 a3 a4 a5 a6 a7 a8 a9 where
  num b j := column (congrFun h1 (ix2 b j))
  den j := column (congrFun h2 (ix1 j))
  x i := finite (congrFun h3 i)
  numA i := below (congrFun h4 i)
  num0 i := below (congrFun h5 i)
  numF i := below (congrFun h6 i)
  denA i := finite (congrFun h7 i)
  den0 i := finite (congrFun h8 i)
  denF i := finite (congrFun h9 i)

end Cert.Given
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.StepRun
public import proofs.«01_k».proof.Proof.Given
public import Idealize.ShloMosaic.Adequacy
public import Idealize.ShloMosaic.Init

@[expose] public section

noncomputable section

namespace Cert.Proof

open Idealize.ShloMosaic Idealize.SL.Sem Cert.Kernel

/-- The facts about shapes that the precondition states: how its constants spread over the arguments. -/
theorem preFacts : Cert.Pre_graphs.Facts where
  bcast_S_S16x64 := by decide
  bcast_S_S64 := by decide
  bcast_S_S16x512x2048 := by decide
  bcast_S_S16x64x64 := by decide
  bcast_S_S64x64 := by decide

/-- The reference runs to the end, leaves its arguments as they were and every semaphore counter at zero: its run read
    at the arguments; the program declares no semaphore. -/
theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- From matching arguments within the precondition both programs end, over the extended reals, with the same loss and
    with their arguments as they were. -/
theorem algebraic : @Cert.algebraic_KernelIdeal_ReferenceIdeal_pre_graphs Cert.KernelIdeal.Gen.facts Cert.ReferenceIdeal.Gen.facts preFacts := by
  intro m g m' g' hpre hm
  haveI := preFacts
  have hK := Cert.KernelIdeal.Steps.run_all (F := Ideal) m g
  have hR := Cert.ReferenceIdeal.StepRun.run_iter (F := Ideal) m' g'
    (fun c => Nat.rec (Cert.ReferenceIdeal.StepRun.initState m' c) fun n s => Cert.ReferenceIdeal.Step.step n s) (fun _ => rfl) (fun _ _ => rfl)
  refine ⟨fun c => Cert.KernelIdeal.Steps.kernelOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · refine (θ_run Cert.KernelIdeal.defs _ _).mono (fun r h c => ?_) hK
    refine ⟨(h c _ (by decide)).trans (Cert.KernelIdeal.Steps.W5_result m g c), (h c _ (by decide)).trans (Cert.KernelIdeal.Gen.W5_main_arg0 m g c), (h c _ (by decide)).trans (Cert.KernelIdeal.Gen.W5_main_arg1 m g c), (h c _ (by decide)).trans (Cert.KernelIdeal.Gen.W5_main_arg2 m g c), (h c _ (by decide)).trans (Cert.KernelIdeal.Gen.W5_main_arg3 m g c), (h c _ (by decide)).trans (Cert.KernelIdeal.Gen.W5_main_arg4 m g c), (h c _ (by decide)).trans (Cert.KernelIdeal.Gen.W5_main_arg5 m g c), (h c _ (by decide)).trans (Cert.KernelIdeal.Gen.W5_main_arg6 m g c), (h c _ (by decide)).trans (Cert.KernelIdeal.Gen.W5_main_arg7 m g c), (h c _ (by decide)).trans (Cert.KernelIdeal.Gen.W5_main_arg8 m g c), (h c _ (by decide)).trans (Cert.KernelIdeal.Gen.W5_main_arg9 m g c)⟩
  · refine (θ_run Cert.ReferenceIdeal.defs _ _).mono (fun r h c => ?_) hR
    obtain ⟨e0, e1, e2, e3, e4, e5, e6, e7, e8, e9⟩ := hm c
    obtain ⟨p1, p2, p3, p4, p5, p6, p7, p8, p9⟩ := hpre c
    refine ⟨(h c).1.trans ?_, (h c).2⟩
    rw [e4, e8]
    refine Cert.Agree.result (Cert.Given.good _ _ _ _ _ _ _ _ _ _ p1 p2 p3 p4 p5 p6 p7 p8 p9) _ ?_ fun _ => rfl
    show Cert.ReferenceIdeal.StepRun.initState m' c = _
    unfold Cert.ReferenceIdeal.StepRun.initState
    rw [e0, e1, e2, e3, e5, e6, e7, e9]

theorem claim : Cert.Claim :=
  ⟨Cert.Kernel.Gen.facts, Cert.KernelIdeal.Gen.facts, Cert.ReferenceIdeal.Gen.facts, preFacts,
    fun m ρ _ => Cert.Kernel.Gen.frame m ρ,
    fun m ρ _ => Cert.KernelIdeal.Gen.frame m ρ,
    fun m ρ _ => Cert.KernelIdeal.Gen.frame m ρ,
    fun m ρ _ => frame_ri m ρ trivial,
    fun m ρ _ => frame_ri m ρ trivial,
    trivial,
    algebraic⟩

end Cert.Proof

end
